-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S512x4096 : Shape := ⟨2, ![512, 4096]⟩
abbrev S2x256x4096 : Shape := ⟨3, ![2, 256, 4096]⟩
abbrev S4x256x256 : Shape := ⟨3, ![4, 256, 256]⟩
abbrev S4x512x256 : Shape := ⟨3, ![4, 512, 256]⟩
abbrev S_ : Shape := ⟨0, ![]⟩
abbrev S2 : Shape := ⟨1, ![2]⟩
abbrev S4 : Shape := ⟨1, ![4]⟩
abbrev S1 : Shape := ⟨1, ![1]⟩
abbrev S1x256x4096 : Shape := ⟨3, ![1, 256, 4096]⟩
abbrev S256x4096 : Shape := ⟨2, ![256, 4096]⟩
abbrev S512x256 : Shape := ⟨2, ![512, 256]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .bf16⟩
  | .local _ .vmem, ⟨0, _⟩ => ⟨S1024x1024, .bf16⟩
  | .local _ .vmem, ⟨1, _⟩ => ⟨S512x4096, .f32⟩
  | .local _ .vmem, ⟨2, _⟩ => ⟨S512x4096, .bf16⟩
  | .local _ .vmem, ⟨3, _⟩ => ⟨S2x256x4096, .f32⟩
  | .local _ .vmem, ⟨4, _⟩ => ⟨S2x256x4096, .bf16⟩
  | .local _ .vmem, ⟨5, _⟩ => ⟨S4x256x256, .bf16⟩
  | .local _ .vmem, ⟨6, _⟩ => ⟨S4x512x256, .f32⟩
  | .local _ .vmem, ⟨7, _⟩ => ⟨S4x256x256, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let c0_i32 : BitVec 32 := 0#32
  ![v8.toNat, 0]
def k0_dev1 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v21 : BitVec 32 := Scalar.muli v6 c2_i32_16
  let v22 : BitVec 32 := Scalar.addi c0_i32_17 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v23 : BitVec 32 := Scalar.muli v5 c1_i32_18
  let v24 : BitVec 32 := Scalar.addi v22 v23
  v24.toNat
def k0_dev2 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v25 : BitVec 32 := Scalar.muli v2 c2_i32_20
  let v26 : BitVec 32 := Scalar.addi c0_i32_21 v25
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_22 : BitVec 32 := 1#32
  let v27 : BitVec 32 := Scalar.muli v7 c1_i32_22
  let v28 : BitVec 32 := Scalar.addi v26 v27
  v28.toNat
def k0_off2 (d0 : Dev nD) : Fin 3 → Nat :=
  let c0_61 : Index := 0#32
  let c1_i32_59 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v65 : BitVec 32 := Scalar.subi c1_i32_59 v2
  let c256_i32_60 : BitVec 32 := 256#32
  let v66 : BitVec 32 := Scalar.muli v65 c256_i32_60
  let v67 : Index := Scalar.indexCast v66
  let c0_62 : Index := 0#32
  ![0, v67.toNat, 0]
def k0_dev3 (d0 : Dev nD) : Nat :=
  let c0_i32_71 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_70 : BitVec 32 := 2#32
  let v74 : BitVec 32 := Scalar.muli v6 c2_i32_70
  let v75 : BitVec 32 := Scalar.addi c0_i32_71 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v76 : BitVec 32 := Scalar.muli v5 c1_i32_72
  let v77 : BitVec 32 := Scalar.addi v75 v76
  v77.toNat
def k0_off3 (d0 : Dev nD) : Fin 3 → Nat :=
  let c1_104 : Index := 1#32
  let c1_i32_102 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v109 : BitVec 32 := Scalar.subi c1_i32_102 v2
  let c256_i32_103 : BitVec 32 := 256#32
  let v110 : BitVec 32 := Scalar.muli v109 c256_i32_103
  let v111 : Index := Scalar.indexCast v110
  let c0_105 : Index := 0#32
  ![1, v111.toNat, 0]
def k0_dev4 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v118 : BitVec 32 := Scalar.muli v6 c2_i32_113
  let v119 : BitVec 32 := Scalar.addi c0_i32_114 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v120 : BitVec 32 := Scalar.muli v5 c1_i32_115
  let v121 : BitVec 32 := Scalar.addi v119 v120
  v121.toNat
def k0_off4 (d0 : Dev nD) : Fin 3 → Nat :=
  let c0_132 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_131 : BitVec 32 := 256#32
  let v140 : BitVec 32 := Scalar.muli v2 c256_i32_131
  let v141 : Index := Scalar.indexCast v140
  let c0_133 : Index := 0#32
  ![0, v141.toNat, 0]
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let v149 : Index := Scalar.indexCast v37
  let c0_137 : Index := 0#32
  ![v149.toNat, 0]
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let c0_i32_143 : BitVec 32 := 0#32
  ![v37.toNat, 0]
def k0_dev5 (d0 : Dev nD) : Nat :=
  let c0_i32_141 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_140 : BitVec 32 := 2#32
  let v151 : BitVec 32 := Scalar.muli v6 c2_i32_140
  let v152 : BitVec 32 := Scalar.addi c0_i32_141 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_142 : BitVec 32 := 1#32
  let v153 : BitVec 32 := Scalar.muli v5 c1_i32_142
  let v154 : BitVec 32 := Scalar.addi v152 v153
  v154.toNat
def k0_dev6 (d0 : Dev nD) : Nat :=
  let c0_i32_148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_147 : BitVec 32 := 2#32
  let v161 : BitVec 32 := Scalar.muli v2 c2_i32_147
  let v162 : BitVec 32 := Scalar.addi c0_i32_148 v161
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_149 : BitVec 32 := 1#32
  let v163 : BitVec 32 := Scalar.muli v7 c1_i32_149
  let v164 : BitVec 32 := Scalar.addi v162 v163
  v164.toNat
def k0_off7 (d0 : Dev nD) : Fin 3 → Nat :=
  let c2_174 : Index := 2#32
  let c1_i32_172 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v189 : BitVec 32 := Scalar.subi c1_i32_172 v2
  let c256_i32_173 : BitVec 32 := 256#32
  let v190 : BitVec 32 := Scalar.muli v189 c256_i32_173
  let v191 : Index := Scalar.indexCast v190
  let c0_175 : Index := 0#32
  ![2, v191.toNat, 0]
def k0_dev7 (d0 : Dev nD) : Nat :=
  let c0_i32_184 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_183 : BitVec 32 := 2#32
  let v198 : BitVec 32 := Scalar.muli v6 c2_i32_183
  let v199 : BitVec 32 := Scalar.addi c0_i32_184 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v200 : BitVec 32 := Scalar.muli v5 c1_i32_185
  let v201 : BitVec 32 := Scalar.addi v199 v200
  v201.toNat
def k0_off8 (d0 : Dev nD) : Fin 3 → Nat :=
  let c1_202 : Index := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_201 : BitVec 32 := 256#32
  let v220 : BitVec 32 := Scalar.muli v2 c256_i32_201
  let v221 : Index := Scalar.indexCast v220
  let c0_203 : Index := 0#32
  ![1, v221.toNat, 0]
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let v229 : Index := Scalar.indexCast v37
  let c256 : Index := 256#32
  ![v229.toNat, 256]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let c256_i32_212 : BitVec 32 := 256#32
  ![v37.toNat, 256]
def k0_dev8 (d0 : Dev nD) : Nat :=
  let c0_i32_210 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_209 : BitVec 32 := 2#32
  let v231 : BitVec 32 := Scalar.muli v6 c2_i32_209
  let v232 : BitVec 32 := Scalar.addi c0_i32_210 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_211 : BitVec 32 := 1#32
  let v233 : BitVec 32 := Scalar.muli v5 c1_i32_211
  let v234 : BitVec 32 := Scalar.addi v232 v233
  v234.toNat
def k0_dev9 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v241 : BitVec 32 := Scalar.muli v2 c2_i32_216
  let v242 : BitVec 32 := Scalar.addi c0_i32_217 v241
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v243 : BitVec 32 := Scalar.muli v7 c1_i32_218
  let v244 : BitVec 32 := Scalar.addi v242 v243
  v244.toNat
def k0_off11 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_30 : BitVec 32 := 512#32
  let v38 : BitVec 32 := Scalar.muli v5 c512_i32_30
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c256_i32_32 : BitVec 32 := 256#32
  let v40 : BitVec 32 := Scalar.muli v39 c256_i32_32
  let v41 : BitVec 32 := Scalar.addi v38 v40
  let c0_i32_233 : BitVec 32 := 0#32
  ![v41.toNat, 0]
def k0_dev10 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v259 : BitVec 32 := Scalar.muli v2 c2_i32_230
  let v260 : BitVec 32 := Scalar.addi c0_i32_231 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_232 : BitVec 32 := 1#32
  let v261 : BitVec 32 := Scalar.muli v7 c1_i32_232
  let v262 : BitVec 32 := Scalar.addi v260 v261
  v262.toNat
def k0_off12 (d0 : Dev nD) : Fin 3 → Nat :=
  let c3_264 : Index := 3#32
  let c1_i32_262 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v295 : BitVec 32 := Scalar.subi c1_i32_262 v2
  let c256_i32_263 : BitVec 32 := 256#32
  let v296 : BitVec 32 := Scalar.muli v295 c256_i32_263
  let v297 : Index := Scalar.indexCast v296
  let c0_265 : Index := 0#32
  ![3, v297.toNat, 0]
def k0_dev11 (d0 : Dev nD) : Nat :=
  let c0_i32_273 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_272 : BitVec 32 := 2#32
  let v304 : BitVec 32 := Scalar.muli v6 c2_i32_272
  let v305 : BitVec 32 := Scalar.addi c0_i32_273 v304
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v306 : BitVec 32 := Scalar.muli v5 c1_i32_274
  let v307 : BitVec 32 := Scalar.addi v305 v306
  v307.toNat
def k0_off13 (d0 : Dev nD) : Fin 3 → Nat :=
  let c2_291 : Index := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_290 : BitVec 32 := 256#32
  let v326 : BitVec 32 := Scalar.muli v2 c256_i32_290
  let v327 : Index := Scalar.indexCast v326
  let c0_292 : Index := 0#32
  ![2, v327.toNat, 0]
def k0_off14 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let v335 : Index := Scalar.indexCast v37
  let c512 : Index := 512#32
  ![v335.toNat, 512]
def k0_off15 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let c512_i32_301 : BitVec 32 := 512#32
  ![v37.toNat, 512]
def k0_dev12 (d0 : Dev nD) : Nat :=
  let c0_i32_299 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_298 : BitVec 32 := 2#32
  let v337 : BitVec 32 := Scalar.muli v6 c2_i32_298
  let v338 : BitVec 32 := Scalar.addi c0_i32_299 v337
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_300 : BitVec 32 := 1#32
  let v339 : BitVec 32 := Scalar.muli v5 c1_i32_300
  let v340 : BitVec 32 := Scalar.addi v338 v339
  v340.toNat
def k0_dev13 (d0 : Dev nD) : Nat :=
  let c0_i32_306 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_305 : BitVec 32 := 2#32
  let v347 : BitVec 32 := Scalar.muli v2 c2_i32_305
  let v348 : BitVec 32 := Scalar.addi c0_i32_306 v347
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_307 : BitVec 32 := 1#32
  let v349 : BitVec 32 := Scalar.muli v7 c1_i32_307
  let v350 : BitVec 32 := Scalar.addi v348 v349
  v350.toNat
def k0_off16 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_30 : BitVec 32 := 512#32
  let v38 : BitVec 32 := Scalar.muli v5 c512_i32_30
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c256_i32_32 : BitVec 32 := 256#32
  let v40 : BitVec 32 := Scalar.muli v39 c256_i32_32
  let v41 : BitVec 32 := Scalar.addi v38 v40
  let c256_i32_322 : BitVec 32 := 256#32
  ![v41.toNat, 256]
def k0_dev14 (d0 : Dev nD) : Nat :=
  let c0_i32_320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_319 : BitVec 32 := 2#32
  let v365 : BitVec 32 := Scalar.muli v2 c2_i32_319
  let v366 : BitVec 32 := Scalar.addi c0_i32_320 v365
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_321 : BitVec 32 := 1#32
  let v367 : BitVec 32 := Scalar.muli v7 c1_i32_321
  let v368 : BitVec 32 := Scalar.addi v366 v367
  v368.toNat
def k0_off17 (d0 : Dev nD) : Fin 3 → Nat :=
  let c3_350 : Index := 3#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_349 : BitVec 32 := 256#32
  let v401 : BitVec 32 := Scalar.muli v2 c256_i32_349
  let v402 : Index := Scalar.indexCast v401
  let c0_351 : Index := 0#32
  ![3, v402.toNat, 0]
def k0_off18 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let v410 : Index := Scalar.indexCast v37
  let c768 : Index := 768#32
  ![v410.toNat, 768]
def k0_off19 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_28 : BitVec 32 := 512#32
  let v35 : BitVec 32 := Scalar.muli v5 c512_i32_28
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_29 : BitVec 32 := 256#32
  let v36 : BitVec 32 := Scalar.muli v2 c256_i32_29
  let v37 : BitVec 32 := Scalar.addi v35 v36
  let c768_i32_360 : BitVec 32 := 768#32
  ![v37.toNat, 768]
def k0_dev15 (d0 : Dev nD) : Nat :=
  let c0_i32_358 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_357 : BitVec 32 := 2#32
  let v412 : BitVec 32 := Scalar.muli v6 c2_i32_357
  let v413 : BitVec 32 := Scalar.addi c0_i32_358 v412
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v414 : BitVec 32 := Scalar.muli v5 c1_i32_359
  let v415 : BitVec 32 := Scalar.addi v413 v414
  v415.toNat
def k0_dev16 (d0 : Dev nD) : Nat :=
  let c0_i32_365 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_364 : BitVec 32 := 2#32
  let v422 : BitVec 32 := Scalar.muli v2 c2_i32_364
  let v423 : BitVec 32 := Scalar.addi c0_i32_365 v422
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_366 : BitVec 32 := 1#32
  let v424 : BitVec 32 := Scalar.muli v7 c1_i32_366
  let v425 : BitVec 32 := Scalar.addi v423 v424
  v425.toNat
def k0_off20 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_30 : BitVec 32 := 512#32
  let v38 : BitVec 32 := Scalar.muli v5 c512_i32_30
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c256_i32_32 : BitVec 32 := 256#32
  let v40 : BitVec 32 := Scalar.muli v39 c256_i32_32
  let v41 : BitVec 32 := Scalar.addi v38 v40
  let c512_i32_381 : BitVec 32 := 512#32
  ![v41.toNat, 512]
def k0_dev17 (d0 : Dev nD) : Nat :=
  let c0_i32_379 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_378 : BitVec 32 := 2#32
  let v440 : BitVec 32 := Scalar.muli v2 c2_i32_378
  let v441 : BitVec 32 := Scalar.addi c0_i32_379 v440
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_380 : BitVec 32 := 1#32
  let v442 : BitVec 32 := Scalar.muli v7 c1_i32_380
  let v443 : BitVec 32 := Scalar.addi v441 v442
  v443.toNat
def k0_off21 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_30 : BitVec 32 := 512#32
  let v38 : BitVec 32 := Scalar.muli v5 c512_i32_30
  let c1_i32_31 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v39 : BitVec 32 := Scalar.subi c1_i32_31 v2
  let c256_i32_32 : BitVec 32 := 256#32
  let v40 : BitVec 32 := Scalar.muli v39 c256_i32_32
  let v41 : BitVec 32 := Scalar.addi v38 v40
  let c768_i32_409 : BitVec 32 := 768#32
  ![v41.toNat, 768]
def k0_dev18 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v474 : BitVec 32 := Scalar.muli v2 c2_i32_406
  let v475 : BitVec 32 := Scalar.addi c0_i32_407 v474
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_408 : BitVec 32 := 1#32
  let v476 : BitVec 32 := Scalar.muli v7 c1_i32_408
  let v477 : BitVec 32 := Scalar.addi v475 v476
  v477.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | .hbm, ⟨4, _⟩ => ⟨S1024x1024, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
/-
# The exchange on the 2 × 2 mesh: devices, pieces, semaphores, contents

Device `c = 2x + y` holds half `x` of the contraction of both arguments. It multiplies rows `512y … 512y + 511` of its
block of the first argument with its block of the second, 256 output columns (one CHUNK) at a time; sends the half of the
partial product it does not keep to its neighbour along `x` (`rs`); adds what it gets to the half it keeps, which is a
finished 256 × 256 block of the result; and passes finished blocks on: its own along `x` (`ax`) and along `y` (`ay`), and
the one it got along `x` further along `y` (`fw`). So sixteen transfers leave each device, one per leg and chunk.

This module names the devices, the pieces of the buffers the kernel touches, the semaphores, and what each piece holds, as
functions of the memory at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

set_option backward.proofsInPublic true in
/-- The neighbour along `x`: the other half of the contraction, the same rows. -/
def xn (c : Dev nD) : Dev nD := ⟨(c.val + 2) % 4, Nat.mod_lt _ (by decide)⟩
set_option backward.proofsInPublic true in
/-- The neighbour along `y`: the same half of the contraction, the other rows. -/
def yn (c : Dev nD) : Dev nD := ⟨(2 * (c.val / 2) + 1) - c.val % 2, by revert c; decide⟩

/-- The neighbour's neighbour along `x` is the device itself; -/
theorem xn_xn (c : Dev nD) : xn (xn c) = c := by revert c; decide
/-- likewise along `y`. -/
theorem yn_yn (c : Dev nD) : yn (yn c) = c := by revert c; decide
/-- The two neighbours of a device have a neighbour in common. -/
theorem xn_yn (c : Dev nD) : xn (yn c) = yn (xn c) := by revert c; decide

/-- The neighbour along `x`, as the program computes it; -/
theorem xn_val (c : Dev nD) : (xn c).val = ((c.val % 2) + 2) - 2 * (c.val / 2) := by revert c; decide
/-- and along `y`. -/
theorem yn_val (c : Dev nD) : (yn c).val = (2 * (c.val / 2) + 1) - c.val % 2 := rfl

/-- The devices paired along `x`, along `y`. -/
def pairX : Dev nD ≃ Dev nD := ⟨xn, xn, xn_xn, xn_xn⟩
@[inherit_doc pairX] def pairY : Dev nD ≃ Dev nD := ⟨yn, yn, yn_yn, yn_yn⟩

/-- What the kernel computes as the device a signal or a transfer names is the neighbour along `x` … -/
theorem dev1_eq (c : Dev nD) : (⟨k0_dev1 c, k0_dev1_lt c⟩ : Dev nD) = xn c := Fin.ext ((k0_dev1_eq c).trans (xn_val c).symm)
@[inherit_doc dev1_eq] theorem dev3_eq (c : Dev nD) : (⟨k0_dev3 c, k0_dev3_lt c⟩ : Dev nD) = xn c := Fin.ext ((k0_dev3_eq c).trans (xn_val c).symm)
@[inherit_doc dev1_eq] theorem dev4_eq (c : Dev nD) : (⟨k0_dev4 c, k0_dev4_lt c⟩ : Dev nD) = xn c := Fin.ext ((k0_dev4_eq c).trans (xn_val c).symm)
@[inherit_doc dev1_eq] theorem dev5_eq (c : Dev nD) : (⟨k0_dev5 c, k0_dev5_lt c⟩ : Dev nD) = xn c := Fin.ext ((k0_dev5_eq c).trans (xn_val c).symm)
@[inherit_doc dev1_eq] theorem dev7_eq (c : Dev nD) : (⟨k0_dev7 c, k0_dev7_lt c⟩ : Dev nD) = xn c := Fin.ext ((k0_dev7_eq c).trans (xn_val c).symm)
@[inherit_doc dev1_eq] theorem dev8_eq (c : Dev nD) : (⟨k0_dev8 c, k0_dev8_lt c⟩ : Dev nD) = xn c := Fin.ext ((k0_dev8_eq c).trans (xn_val c).symm)
@[inherit_doc dev1_eq] theorem dev11_eq (c : Dev nD) : (⟨k0_dev11 c, k0_dev11_lt c⟩ : Dev nD) = xn c := Fin.ext ((k0_dev11_eq c).trans (xn_val c).symm)
@[inherit_doc dev1_eq] theorem dev12_eq (c : Dev nD) : (⟨k0_dev12 c, k0_dev12_lt c⟩ : Dev nD) = xn c := Fin.ext ((k0_dev12_eq c).trans (xn_val c).symm)
@[inherit_doc dev1_eq] theorem dev15_eq (c : Dev nD) : (⟨k0_dev15 c, k0_dev15_lt c⟩ : Dev nD) = xn c := Fin.ext ((k0_dev15_eq c).trans (xn_val c).symm)
/-- … or the one along `y`. -/
theorem dev2_eq (c : Dev nD) : (⟨k0_dev2 c, k0_dev2_lt c⟩ : Dev nD) = yn c := Fin.ext (k0_dev2_eq c)
@[inherit_doc dev2_eq] theorem dev6_eq (c : Dev nD) : (⟨k0_dev6 c, k0_dev6_lt c⟩ : Dev nD) = yn c := Fin.ext (k0_dev6_eq c)
@[inherit_doc dev2_eq] theorem dev9_eq (c : Dev nD) : (⟨k0_dev9 c, k0_dev9_lt c⟩ : Dev nD) = yn c := Fin.ext (k0_dev9_eq c)
@[inherit_doc dev2_eq] theorem dev10_eq (c : Dev nD) : (⟨k0_dev10 c, k0_dev10_lt c⟩ : Dev nD) = yn c := Fin.ext (k0_dev10_eq c)
@[inherit_doc dev2_eq] theorem dev13_eq (c : Dev nD) : (⟨k0_dev13 c, k0_dev13_lt c⟩ : Dev nD) = yn c := Fin.ext (k0_dev13_eq c)
@[inherit_doc dev2_eq] theorem dev14_eq (c : Dev nD) : (⟨k0_dev14 c, k0_dev14_lt c⟩ : Dev nD) = yn c := Fin.ext (k0_dev14_eq c)
@[inherit_doc dev2_eq] theorem dev16_eq (c : Dev nD) : (⟨k0_dev16 c, k0_dev16_lt c⟩ : Dev nD) = yn c := Fin.ext (k0_dev16_eq c)
@[inherit_doc dev2_eq] theorem dev17_eq (c : Dev nD) : (⟨k0_dev17 c, k0_dev17_lt c⟩ : Dev nD) = yn c := Fin.ext (k0_dev17_eq c)
@[inherit_doc dev2_eq] theorem dev18_eq (c : Dev nD) : (⟨k0_dev18 c, k0_dev18_lt c⟩ : Dev nD) = yn c := Fin.ext (k0_dev18_eq c)

/-! ## The buffers and their pieces -/

/-- The two arguments in HBM; the result's buffer; the scratch buffers: the rows of the first argument as fetched and
    narrowed, two chunks of the second as fetched and narrowed, the four partial products, the tiles sent, the tiles got. -/
abbrev aM : Memref sig .tc .hbm S1024x4096 .f32 := Memref.whole main_arg0
@[inherit_doc aM] abbrev bM : Memref sig .tc .hbm S1024x4096 .f32 := Memref.whole main_arg1
@[inherit_doc aM] abbrev oM : Memref sig .tc .vmem S1024x1024 .bf16 := Memref.whole cc0_stg0_0
@[inherit_doc aM] abbrev dvM : Memref sig .tc .vmem S512x4096 .f32 := Memref.whole cc0_scratch0
@[inherit_doc aM] abbrev dbM : Memref sig .tc .vmem S512x4096 .bf16 := Memref.whole cc0_scratch1
@[inherit_doc aM] abbrev wvM : Memref sig .tc .vmem S2x256x4096 .f32 := Memref.whole cc0_scratch2
@[inherit_doc aM] abbrev wbM : Memref sig .tc .vmem S2x256x4096 .bf16 := Memref.whole cc0_scratch3
@[inherit_doc aM] abbrev pnM : Memref sig .tc .vmem S4x256x256 .bf16 := Memref.whole cc0_scratch4
@[inherit_doc aM] abbrev poM : Memref sig .tc .vmem S4x512x256 .f32 := Memref.whole cc0_scratch5
@[inherit_doc aM] abbrev rbM : Memref sig .tc .vmem S4x256x256 .bf16 := Memref.whole cc0_scratch6

set_option backward.proofsInPublic true in
/-- Slot `j` of a two-slot buffer of chunks; -/
abbrev slotW (j : Fin 2) : Rect S2x256x4096 := Rect.unit (s := S2x256x4096) ![j.val, 0, 0] S1x256x4096.size (by revert j; decide)
set_option backward.proofsInPublic true in
/-- slot `k` of a four-slot buffer of tiles; -/
abbrev slotT (k : Fin 4) : Rect S4x256x256 := Rect.unit (s := S4x256x256) ![k.val, 0, 0] S1x256x256.size (by revert k; decide)
set_option backward.proofsInPublic true in
/-- slot `k` of the buffer of partial products; -/
abbrev slotP (k : Fin 4) : Rect S4x512x256 := Rect.unit (s := S4x512x256) ![k.val, 0, 0] S1x512x256.size (by revert k; decide)
set_option backward.proofsInPublic true in
/-- rows `256h … 256h + 255` of one partial product; -/
abbrev rowP (h : Fin 2) : Rect S1x512x256 := Rect.unit (s := S1x512x256) ![0, 256 * h.val, 0] S1x256x256.size (by revert h; decide)
set_option backward.proofsInPublic true in
/-- the block of the result device `d` finishes for chunk `k`: rows from `512y + 256x`, columns from `256k`; -/
abbrev blkR (d : Dev nD) (k : Fin 4) : Rect S1024x1024 :=
  Rect.unit (s := S1024x1024) ![512 * (d.val % 2) + 256 * (d.val / 2), 256 * k.val] S256x256.size (by revert d k; decide)
set_option backward.proofsInPublic true in
/-- rows `256k … 256k + 255` of an argument's block, its chunk `k`. -/
abbrev chunkR (k : Fin 4) : Rect S1024x4096 := Rect.unit (s := S1024x4096) ![256 * k.val, 0] S256x4096.size (by revert k; decide)

/-- A slot of the fetched chunks; -/
abbrev wvS (j : Fin 2) : Memref sig .tc .vmem S1x256x4096 .f32 := wvM.slice (slotW j) (fun _ => rfl)
/-- the same without its leading axis. -/
abbrev wvQ (j : Fin 2) : Memref sig .tc .vmem S256x4096 .f32 := (wvS j).squeeze S256x4096 squeezes_S1x256x4096_S256x4096
/-- A slot of the narrowed chunks. -/
abbrev wbS (j : Fin 2) : Memref sig .tc .vmem S1x256x4096 .bf16 := wbM.slice (slotW j) (fun _ => rfl)
/-- A slot of the partial products. -/
abbrev poS (k : Fin 4) : Memref sig .tc .vmem S1x512x256 .f32 := poM.slice (slotP k) (fun _ => rfl)
/-- A slot of the tiles to send; -/
abbrev pnS (k : Fin 4) : Memref sig .tc .vmem S1x256x256 .bf16 := pnM.slice (slotT k) (fun _ => rfl)
/-- the same without its leading axis. -/
abbrev pnQ (k : Fin 4) : Memref sig .tc .vmem S256x256 .bf16 := (pnS k).squeeze S256x256 squeezes_S1x256x256_S256x256
/-- A slot of the tiles received; -/
abbrev rbS (k : Fin 4) : Memref sig .tc .vmem S1x256x256 .bf16 := rbM.slice (slotT k) (fun _ => rfl)
/-- the same without its leading axis. -/
abbrev rbQ (k : Fin 4) : Memref sig .tc .vmem S256x256 .bf16 := (rbS k).squeeze S256x256 squeezes_S1x256x256_S256x256
/-- The block of the result that device `d` finishes for chunk `k`. -/
abbrev blk (d : Dev nD) (k : Fin 4) : Memref sig .tc .vmem S256x256 .bf16 := oM.slice (blkR d k) (fun _ => rfl)
/-- The rows of the first argument a device works on, and chunk `k` of the second. -/
abbrev aRows (c : Dev nD) : Memref sig .tc .hbm S512x4096 .f32 := aM.slice (Rect.unit (s := S1024x4096) (k0_off1 c) S512x4096.size (k0_off1_inb c)) (fun _ => rfl)
@[inherit_doc aRows] abbrev bRows (k : Fin 4) : Memref sig .tc .hbm S256x4096 .f32 := bM.slice (chunkR k) (fun _ => rfl)

/-- A slice of the result at offsets equal to a block's is that block. -/
theorem blk_of_off (d : Dev nD) (k : Fin 4) {off : Fin 2 → Nat} (h : off = ![512 * (d.val % 2) + 256 * (d.val / 2), 256 * k.val])
    (p : ∀ a, off a + S256x256.size a ≤ S1024x1024.size a) :
    oM.slice (Rect.unit (s := S1024x1024) off S256x256.size p) (fun _ => rfl) = blk d k := by subst h; rfl

/-- The source and place of the copies of the finished block of chunk 0; -/
theorem blk6 (c : Dev nD) : oM.slice (Rect.unit (s := S1024x1024) (k0_off6 c) S256x256.size (k0_off6_inb c)) (fun _ => rfl) = blk c 0 := blk_of_off c 0 (k0_off6_eq c) _
/-- of chunk 1; -/
theorem blk10 (c : Dev nD) : oM.slice (Rect.unit (s := S1024x1024) (k0_off10 c) S256x256.size (k0_off10_inb c)) (fun _ => rfl) = blk c 1 := blk_of_off c 1 (k0_off10_eq c) _
/-- of chunk 2; -/
theorem blk15 (c : Dev nD) : oM.slice (Rect.unit (s := S1024x1024) (k0_off15 c) S256x256.size (k0_off15_inb c)) (fun _ => rfl) = blk c 2 := blk_of_off c 2 (k0_off15_eq c) _
/-- of chunk 3. -/
theorem blk19 (c : Dev nD) : oM.slice (Rect.unit (s := S1024x1024) (k0_off19 c) S256x256.size (k0_off19_inb c)) (fun _ => rfl) = blk c 3 := blk_of_off c 3 (k0_off19_eq c) _

/-- The other block in a device's rows is the one its neighbour along `x` finishes. -/
theorem off_xn (c : Dev nD) (k : Nat) :
    (![(512 * (c.val % 2) + 256) - 256 * (c.val / 2), k] : Fin 2 → Nat) = ![512 * ((xn c).val % 2) + 256 * ((xn c).val / 2), k] := by
  have h : (512 * (c.val % 2) + 256) - 256 * (c.val / 2) = 512 * ((xn c).val % 2) + 256 * ((xn c).val / 2) := by revert c; decide
  rw [h]

/-- Those of the forwarded block of chunk 0, the neighbour's; -/
theorem blk11 (c : Dev nD) : oM.slice (Rect.unit (s := S1024x1024) (k0_off11 c) S256x256.size (k0_off11_inb c)) (fun _ => rfl) = blk (xn c) 0 :=
  blk_of_off (xn c) 0 ((k0_off11_eq c).trans (off_xn c _)) _
/-- of chunk 1; -/
theorem blk16 (c : Dev nD) : oM.slice (Rect.unit (s := S1024x1024) (k0_off16 c) S256x256.size (k0_off16_inb c)) (fun _ => rfl) = blk (xn c) 1 :=
  blk_of_off (xn c) 1 ((k0_off16_eq c).trans (off_xn c _)) _
/-- of chunk 2; -/
theorem blk20 (c : Dev nD) : oM.slice (Rect.unit (s := S1024x1024) (k0_off20 c) S256x256.size (k0_off20_inb c)) (fun _ => rfl) = blk (xn c) 2 :=
  blk_of_off (xn c) 2 ((k0_off20_eq c).trans (off_xn c _)) _
/-- of chunk 3. -/
theorem blk21 (c : Dev nD) : oM.slice (Rect.unit (s := S1024x1024) (k0_off21 c) S256x256.size (k0_off21_inb c)) (fun _ => rfl) = blk (xn c) 3 :=
  blk_of_off (xn c) 3 ((k0_off21_eq c).trans (off_xn c _)) _

/-! ## The transfers and the semaphores -/

/-- The four legs of a chunk. -/
inductive Leg where
  | rs | ax | ay | fw
  deriving DecidableEq

instance : Fintype Leg := ⟨{.rs, .ax, .ay, .fw}, fun l => by cases l <;> decide⟩

/-- A transfer a device issues: its leg and its chunk. -/
abbrev Xfer : Type := Leg × Fin 4

/-- The transfers in the order a device issues them, which is also the order it waits for their arrivals in. -/
def order : List Xfer :=
  [(.rs, 0), (.rs, 1), (.ax, 0), (.ay, 0), (.rs, 2), (.ax, 1), (.ay, 1), (.fw, 0), (.rs, 3), (.ax, 2), (.ay, 2), (.fw, 1), (.ax, 3), (.ay, 3), (.fw, 2), (.fw, 3)]
/-- No transfer is issued twice, … -/
theorem order_nodup : order.Nodup := by decide
/-- … and every transfer is issued: -/
theorem order_univ : (Finset.univ : Finset Xfer) = order.toFinset := by decide
/-- each is in the order. -/
theorem mem_order (t : Xfer) : t ∈ order := List.mem_toFinset.mp (order_univ ▸ Finset.mem_univ t)

/-- A device's semaphores: the barrier, the fetch of the first argument's rows, the two fetches of the second's chunks,
    and per transfer the one its issue is waited for on and the one its arrival is waited for on. -/
inductive Cell where
  | bar | dy | w (j : Fin 2) | snd (t : Xfer) | rcv (t : Xfer)
  deriving DecidableEq

/-- The cells, one after the other. -/
def cellList : List Cell := .bar :: .dy :: .w 0 :: .w 1 :: (order.map .snd ++ order.map .rcv)
/-- No cell is listed twice, … -/
theorem cellList_nodup : cellList.Nodup := by decide
instance : Fintype Cell := ⟨⟨cellList, cellList_nodup⟩, fun i => by
  show i ∈ cellList
  unfold cellList
  rcases i with _ | _ | j | t | t
  · simp
  · simp
  · fin_cases j <;> simp
  · simp [mem_order t]
  · simp [mem_order t]⟩
/-- … and every cell is listed. -/
theorem cellList_univ : (Finset.univ : Finset Cell) = cellList.toFinset := Finset.ext fun i => by
  rw [List.mem_toFinset]; exact ⟨fun _ => Finset.mem_univ (α := Cell) i, fun _ => Finset.mem_univ i⟩

/-- The device a transfer of device `c` goes to. -/
def peer (c : Dev nD) (t : Xfer) : Dev nD := match t.1 with | .rs | .ax => xn c | .ay | .fw => yn c
/-- Peers are each other's. -/
theorem peer_peer (c : Dev nD) (t : Xfer) : peer (peer c t) t = c := by
  rcases t with ⟨_ | _ | _ | _, k⟩ <;> first | exact xn_xn c | exact yn_yn c
/-- The devices paired by a transfer. -/
def pairT (t : Xfer) : Dev nD ≃ Dev nD := ⟨(peer · t), (peer · t), (peer_peer · t), (peer_peer · t)⟩

/-- What a transfer reads on the device that issues it, and (the same place for a block of the result) what it writes on
    its peer. -/
def srcM (c : Dev nD) (t : Xfer) : Memref sig .tc .vmem S256x256 .bf16 := match t.1 with | .rs => pnQ t.2 | .ax | .ay => blk c t.2 | .fw => blk (xn c) t.2
@[inherit_doc srcM] def dstM (c : Dev nD) (t : Xfer) : Memref sig .tc .vmem S256x256 .bf16 := match t.1 with | .rs => rbQ t.2 | .ax | .ay => blk c t.2 | .fw => blk (xn c) t.2

/-- The semaphores of the sources, by family; -/
def sndSems : Leg → DmaSems sig S4 | .rs => cc0_scratch9 | .ax => cc0_scratch11 | .ay => cc0_scratch13 | .fw => cc0_scratch15
/-- those of the landings. -/
def rcvSems : Leg → DmaSems sig S4 | .rs => cc0_scratch10 | .ax => cc0_scratch12 | .ay => cc0_scratch14 | .fw => cc0_scratch16

set_option backward.proofsInPublic true in
/-- Semaphore `k` of an array of four, of two. -/
def at4 (a : DmaSems sig S4) (k : Fin 4) : DmaSem sig :=
  ((a.slice (Rect.unit (s := S4) ![k.val] S1.size (by revert k; decide))).squeeze S_ squeezes_S1_S_).sem
set_option backward.proofsInPublic true in
@[inherit_doc at4] def at2 (a : DmaSems sig S2) (j : Fin 2) : DmaSem sig :=
  ((a.slice (Rect.unit (s := S2) ![j.val] S1.size (by revert j; decide))).squeeze S_ squeezes_S1_S_).sem

/-- The runtime's barrier semaphore. -/
abbrev barS : Sem sig := (SemArray.scalar (sig.barrier 0 rfl) : Sems sig S_).sem

/-- Each cell's semaphore. -/
def csem : Cell → SemLoc sig
  | .bar => .reg barS
  | .dy => .dma (cc0_scratch7 : DmaSems sig S_).sem
  | .w j => .dma (at2 cc0_scratch8 j)
  | .snd t => .dma (at4 (sndSems t.1) t.2)
  | .rcv t => .dma (at4 (rcvSems t.1) t.2)

/-- Different cells are different semaphores. -/
theorem csem_injective : Function.Injective csem := fun i j h => by
  have hl : ∀ a ∈ cellList, ∀ b ∈ cellList, csem a = csem b → a = b := by decide
  exact hl i (Finset.mem_univ (α := Cell) i) j (Finset.mem_univ (α := Cell) j) h

/-- Device `c`'s cell `i`, among all devices' semaphores. -/
abbrev gcell (c : Dev nD) (i : Cell) : GSem nD τ sig := ((c : Thread nD τ), csem i)

/-- A cell among all is determined by its device and its name. -/
theorem gcell_inj {c d : Dev nD} {i j : Cell} : Iff (gcell c i = gcell d j) (c = d ∧ i = j) :=
  ⟨fun h => ⟨Fin.ext (congrArg (fun g : GSem nD τ sig => g.1.1.val) h), csem_injective (congrArg Prod.snd h)⟩, fun h => by rw [h.1, h.2]⟩

/-- The cell of a semaphore, if it is one of ours. -/
def cellAt (s : SemLoc sig) : Option Cell := preimage? ⟨csem, csem_injective⟩ s
/-- The cell of a semaphore is found again. -/
theorem cellAt_csem (i : Cell) : cellAt (csem i) = some i := preimage?_emb ⟨csem, csem_injective⟩ i

/-- The units a transfer, the fetch of the rows and the fetch of a chunk credit. -/
def nT : ℕ := (rbQ 0).view.dmaCredit
@[inherit_doc nT] def nA : ℕ := dvM.view.dmaCredit
@[inherit_doc nT] def nB : ℕ := (wvQ 0).view.dmaCredit

/-- Every transfer lands the same number of units; -/
theorem nT_dst (c : Dev nD) (t : Xfer) : (dstM c t).view.dmaCredit = nT := by
  rcases t with ⟨_ | _ | _ | _, k⟩ <;> rfl
/-- so does every fetch of a chunk. -/
theorem nB_dst (j : Fin 2) : (wvQ j).view.dmaCredit = nB := rfl
/-- A transfer lands something; -/
theorem nT_pos : 0 < nT := View.dmaCredit_pos _ (by decide)
/-- so does the fetch of the rows; -/
theorem nA_pos : 0 < nA := View.dmaCredit_pos _ (by decide)
/-- so does that of a chunk. -/
theorem nB_pos : 0 < nB := View.dmaCredit_pos _ (by decide)

/-! ## What the pieces hold -/

/-- A value on `1 × a × b` read as one on `a × b`, and the other way. -/
def flat (X : S1x256x256.Idx → Elt F .bf16) : S256x256.Idx → Elt F .bf16 := fun j => X (Shape.reshapeEquiv squeezes_S1x256x256_S256x256.numel_eq j)
@[inherit_doc flat] def unflat (X : S256x256.Idx → Elt F .bf16) : S1x256x256.Idx → Elt F .bf16 := fun j => X ((Shape.reshapeEquiv squeezes_S1x256x256_S256x256.numel_eq).symm j)
omit [FloatOps F] in
/-- A tile without its leading axis, and with it again, is the tile. -/
theorem unflat_flat (X : S1x256x256.Idx → Elt F .bf16) : unflat (flat X) = X := by
  funext j; unfold unflat flat; rw [Equiv.apply_symm_apply]

variable (m : (ℓ : Loc nD τ sig) → Buf (Elt F) ℓ)

/-- The half of a partial product device `c` keeps, and the half it sends. -/
def own (c : Dev nD) : Fin 2 := ⟨c.val / 2, by revert c; decide⟩
@[inherit_doc own] def oth (c : Dev nD) : Fin 2 := ⟨1 - c.val / 2, by omega⟩

/-- Device `c`'s rows of the first argument as fetched, narrowed; chunk `k` of the second as fetched, narrowed. -/
def rowsA (c : Dev nD) : S512x4096.Idx → Elt F .f32 := (aRows c).view.read (Elt F) (m ((c : Thread nD τ).loc main_arg0))
@[inherit_doc rowsA] def rowsN (c : Dev nD) : S512x4096.Idx → Elt F .bf16 := k0_pay1 (rowsA m c)
@[inherit_doc rowsA] def chunkB (c : Dev nD) (k : Fin 4) : S256x4096.Idx → Elt F .f32 := (bRows k).view.read (Elt F) (m ((c : Thread nD τ).loc main_arg1))
@[inherit_doc rowsA] def chunkF (c : Dev nD) (k : Fin 4) : S1x256x4096.Idx → Elt F .f32 := fun j => chunkB m c k ((Shape.reshapeEquiv squeezes_S1x256x4096_S256x4096.numel_eq).symm j)
@[inherit_doc rowsA] def chunkN (c : Dev nD) (k : Fin 4) : S1x256x4096.Idx → Elt F .bf16 := k0_pay2 (chunkF m c k)
/-- The partial product of chunk `k`, and its rows `256h …`. -/
def part (c : Dev nD) (k : Fin 4) : S1x512x256.Idx → Elt F .f32 := k0_pay3 (rowsN m c) (chunkN m c k)
@[inherit_doc part] def partRows (c : Dev nD) (k : Fin 4) (h : Fin 2) : S1x256x256.Idx → Elt F .f32 := fun j => part m c k ((rowP h).emb j)
/-- The tile device `c` sends along `x`. -/
def tile (c : Dev nD) (k : Fin 4) : S1x256x256.Idx → Elt F .bf16 := k0_pay4 (partRows m c k (oth c))
/-- The finished block of device `c` for chunk `k`. -/
def done (c : Dev nD) (k : Fin 4) : S256x256.Idx → Elt F .bf16 := k0_pay8 (partRows m c k (own c)) (tile m (xn c) k)

/-- What a transfer of device `c` carries. -/
def val (c : Dev nD) (t : Xfer) : S256x256.Idx → Elt F .bf16 := match t.1 with | .rs => flat (tile m c t.2) | .ax | .ay => done m c t.2 | .fw => done m (xn c) t.2

end Cert.Exchange

end
-- ==== Proof.Schedule.lean ====
/-
# The exchange's protocol

Every semaphore the kernel touches is a cell that runs through ROUNDS; in a round, duties are paid, each with a fixed number
of units and a payload, and the cell's owner, waiting for the round's units, takes the payloads.

* The barrier cell of device `c` has one round of two duties of a unit each: `true`, paid by the neighbour along `x`, hands
  `c` the places there that `c`'s transfers along `x` land in; `false`, paid by the neighbour along `y`, those along `y`.
* A fetch's cell is paid by the fetch, with the fetched piece and the argument it read; a chunk's cell has two rounds.
* A transfer's first cell, on the device that issues it, is paid with what the transfer read, its second cell, on the
  peer, with what it landed.

What a device owes others shrinks as it issues its transfers in `order`; the cells are levelled so that every wait is for a
cell below all those it then owes.
-/
module

public import proofs.«01_k».proof.Proof.Pieces
public import Idealize.ShloMosaic.Lib.Pipeline.BigSepL

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's record of its cells, beside the launch's of the staging cells. -/
abbrev UB : Type := URounds (GSem nD τ sig) Bool
@[inherit_doc UB] abbrev UU : Type := UR sig nD τ × UB

local notation "𝕄" => MT nD τ sig Unit (Elt F) ℕ UU ℕ

/-- The launch's part of the records. -/
abbrev EP : Emb (UR sig nD τ) (MT nD τ sig Unit (Elt F) ℕ UU ℕ) := embL
/-- The exchange's part of the records. -/
abbrev ER : Emb UB (MT nD τ sig Unit (Elt F) ℕ UU ℕ) := embR

variable (m : (ℓ : Loc nD τ sig) → Buf (Elt F) ℓ)

/-! ## Payloads -/

/-- A piece held outright at some contents. -/
def held (c : Dev nD) {sp : Space} {s : Shape} {e : EltTy} (M : Memref sig .tc sp s e) : sProp 𝕄 := iprop(∃ X, owns (c : Thread nD τ) M fullShare X)

/-- The place on `c`'s peer that a transfer of `c` lands in. -/
def landing (c : Dev nD) (t : Xfer) : sProp 𝕄 := held (peer c t) (dstM c t)

/-- The transfers along `x`, along `y`. -/
def along : Bool → List Xfer
  | true => [(.rs, 0), (.rs, 1), (.rs, 2), (.rs, 3), (.ax, 0), (.ax, 1), (.ax, 2), (.ax, 3)]
  | false => [(.ay, 0), (.ay, 1), (.ay, 2), (.ay, 3), (.fw, 0), (.fw, 1), (.fw, 2), (.fw, 3)]

/-- The share of its source a transfer takes: a finished block leaves along `x` and along `y` at once. -/
def shareT (t : Xfer) : PosShare TreeShare := match t.1 with | .ax => fullShare.left | .ay => fullShare.right | .rs | .fw => fullShare
/-- The share of the second argument a fetch into slot `j` takes. -/
def shareW (j : Fin 2) : PosShare TreeShare := if j = 0 then fullShare.left else fullShare.right

/-- The chunk fetched into slot `j` in round `r`. -/
def chunkOf (r : ℕ) (j : Fin 2) : Fin 4 := ⟨(2 * r + j.val) % 4, Nat.mod_lt _ (by decide)⟩

/-- The first argument of device `c`, held outright. -/
def aPts (c : Dev nD) : sProp 𝕄 := ((c : Thread nD τ).loc main_arg0) ↦{fullShare} m ((c : Thread nD τ).loc main_arg0)
/-- The second argument of device `c`, held at a share. -/
def bPts (c : Dev nD) (q : PosShare TreeShare) : sProp 𝕄 := ((c : Thread nD τ).loc main_arg1) ↦{q} m ((c : Thread nD τ).loc main_arg1)

/-- What duty `d` of round `r` of device `c`'s cell `i` hands its owner. -/
def pay (c : Dev nD) (i : Cell) (r : ℕ) (d : Bool) : sProp 𝕄 := match i with
  | .bar => bigSepL (along d) (landing c)
  | .dy => iprop(owns (c : Thread nD τ) dvM fullShare (rowsA m c) ∗ aPts m c)
  | .w j => iprop(owns (c : Thread nD τ) (wvQ j) fullShare (chunkB m c (chunkOf r j)) ∗ bPts m c (shareW j))
  | .snd t => owns (c : Thread nD τ) (srcM c t) (shareT t) (val m c t)
  | .rcv t => owns (c : Thread nD τ) (dstM (peer c t) t) fullShare (val m (peer c t) t)

omit [FloatOps F] in
/-- A piece held may be put in a cell; -/
instance held_storable (c : Dev nD) {sp : Space} {s : Shape} {e : EltTy} (M : Memref sig .tc sp s e) :
    BI.Storable (upEmb : UEmb _ 𝕄) (held (F := F) c M) := by unfold held; infer_instance
omit [FloatOps F] in
/-- so may a list of things that may; -/
theorem bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) iprop(emp))
  | cons i l ih => rw [bigSepL_cons]; exact (inferInstance : BI.Storable (upEmb : UEmb _ 𝕄) iprop(Φ i ∗ bigSepL l Φ))
omit [FloatOps F] in
/-- the first argument; -/
instance aPts_storable (c : Dev nD) : BI.Storable (upEmb : UEmb _ 𝕄) (aPts (F := F) m c) := by unfold aPts; infer_instance
omit [FloatOps F] in
/-- the second; -/
instance bPts_storable (c : Dev nD) (q) : BI.Storable (upEmb : UEmb _ 𝕄) (bPts (F := F) m c q) := by unfold bPts; infer_instance
omit [FloatOps F] in
/-- a landing place; -/
instance landing_storable (c : Dev nD) (t : Xfer) : BI.Storable (upEmb : UEmb _ 𝕄) (landing (F := F) c t) := by unfold landing; infer_instance

/-- and hence every payload. -/
instance pay_storable (c : Dev nD) (i : Cell) (r : ℕ) (d : Bool) : BI.Storable (upEmb : UEmb _ 𝕄) (pay (F := F) m c i r d) := by
  unfold pay
  cases i with
  | bar => exact bigSepL_storable _ _
  | dy => dsimp only; infer_instance
  | w j => dsimp only; infer_instance
  | snd t => dsimp only; infer_instance
  | rcv t => dsimp only; infer_instance

/-! ## The schedule -/

/-- A cell's duties in a round, and the units of each. -/
def dut (i : Cell) (r : ℕ) : Finset Bool := match i with
  | .bar => if r = 0 then Finset.univ else ∅
  | .w _ => if r ≤ 1 then {false} else ∅
  | .dy | .snd _ | .rcv _ => if r = 0 then {false} else ∅
@[inherit_doc dut] def amt : Cell → ℕ | .bar => 1 | .dy => nA | .w _ => nB | .snd _ | .rcv _ => nT
/-- No duty is empty. -/
theorem amt_pos (i : Cell) : 0 < amt i := by
  cases i with
  | bar => exact Nat.one_pos
  | dy => exact nA_pos
  | w j => exact nB_pos
  | snd t => exact nT_pos
  | rcv t => exact nT_pos

/-- The rounds of every cell of every device. -/
def sched : Rounds.Schedule (GSem nD τ sig) Bool 𝕄 where
  duties g r := if g.1.2 = .tc then (match cellAt g.2 with | some i => dut i r | none => ∅) else ∅
  unitless _ := False
  amount g _ _ := match cellAt g.2 with | some i => amt i | none => 1
  payload g r d := match cellAt g.2 with | some i => pay m g.1.1 i r d | none => iprop(emp)
  amount_pos g _ _ _ := by
    cases cellAt g.2 with
    | none => exact Nat.one_pos
    | some i => exact amt_pos i

/-- Every payload of the schedule may be put in a cell. -/
instance sched_payload_storable (g : GSem nD τ sig) (r : ℕ) (d : Bool) : BI.Storable (upEmb : UEmb _ 𝕄) ((sched (F := F) m).payload g r d) := by
  show BI.Storable upEmb (match cellAt g.2 with | some i => pay m g.1.1 i r d | none => iprop(emp))
  cases cellAt g.2 <;> dsimp only <;> infer_instance

/-- The schedule's duties at a cell; -/
theorem sched_duties (c : Dev nD) (i : Cell) (r : ℕ) : (sched (F := F) m).duties (gcell c i) r = dut i r := by
  dsimp only [sched]; rw [if_pos rfl, cellAt_csem]
/-- their units; -/
theorem sched_amount (c : Dev nD) (i : Cell) (r : ℕ) (d : Bool) : (sched (F := F) m).amount (gcell c i) r d = amt i := by
  dsimp only [sched]; rw [cellAt_csem]
/-- their payloads. -/
theorem sched_payload (c : Dev nD) (i : Cell) (r : ℕ) (d : Bool) : (sched (F := F) m).payload (gcell c i) r d = pay m c i r d := by
  dsimp only [sched]; rw [cellAt_csem]

/-- A round of a cell with the one duty `false`: its units, its payload. -/
theorem expect_one (c : Dev nD) (i : Cell) (r : ℕ) (h : dut i r = {false}) : (sched (F := F) m).expect (gcell c i) r = amt i := by
  unfold Schedule.expect Schedule.amountOf; rw [sched_duties, h, Finset.sum_singleton, sched_amount]
@[inherit_doc expect_one] theorem rest_one (c : Dev nD) (i : Cell) (r : ℕ) (h : dut i r = {false}) :
    bigSep ((sched (F := F) m).duties (gcell c i) r \ ∅) (fun d => (sched (F := F) m).payload (gcell c i) r d) = pay m c i r false := by
  rw [Finset.sdiff_empty, sched_duties, h, bigSep_singleton, sched_payload]

/-- The barrier's round: two units; the landing places of all transfers. -/
theorem expect_bar (c : Dev nD) : (sched (F := F) m).expect (gcell c .bar) 0 = 2 := by
  unfold Schedule.expect Schedule.amountOf
  rw [sched_duties, show dut .bar 0 = Finset.univ from rfl, Finset.sum_congr rfl fun d _ => sched_amount m c .bar 0 d, Finset.sum_const, Finset.card_univ,
    Fintype.card_bool, smul_eq_mul]; rfl
@[inherit_doc expect_bar] theorem rest_bar (c : Dev nD) :
    bigSep ((sched (F := F) m).duties (gcell c .bar) 0 \ ∅) (fun d => (sched (F := F) m).payload (gcell c .bar) 0 d) = bigSepL order (landing c) := by
  rw [Finset.sdiff_empty, sched_duties, show dut .bar 0 = Finset.univ from rfl, bigSep_univ_eq_bigSepL [true, false] (by decide) (by decide),
    bigSepL_cons_cons, bigSepL_singleton, sched_payload, sched_payload]
  have h : bigSepL order (landing (F := F) c) = bigSepL (along true ++ along false) (landing c) :=
    (bigSep_eq_bigSepL_of_eq order rfl order_nodup _).symm.trans
      (bigSep_eq_bigSepL_of_eq _ (by decide) (by decide) _)
  rw [h, bigSepL_append]; rfl

/-- A cell whose rounds are over has no duty left. -/
theorem duties_after (c : Dev nD) (i : Cell) (R : ℕ) (hR : ∀ r, R ≤ r → dut i r = ∅) :
    ∀ r, R ≤ r → (sched (F := F) m).duties (gcell c i) r = ∅ := fun r hr => by rw [sched_duties]; exact hR r hr

/-- All cells but those of the chunks have one round; -/
theorem dut_after_one (i : Cell) (hi : ∀ j, i ≠ .w j) (r : ℕ) (hr : 1 ≤ r) : dut i r = ∅ := by
  have h0 : r ≠ 0 := Nat.one_le_iff_ne_zero.mp hr
  cases i with
  | w j => exact absurd rfl (hi j)
  | _ => exact if_neg h0
/-- those have two. -/
theorem dut_after_two (j : Fin 2) (r : ℕ) (hr : 2 ≤ r) : dut (.w j) r = ∅ := if_neg (by omega)

/-! ## What a device owes, and the levels -/

/-- What a device owes for the transfers it has yet to issue: each peer's arrival cell. -/
def owedL (c : Dev nD) : List Xfer → CellTallies nD τ sig Unit
  | [] => 0
  | t :: l => owedL c l + tallyAt (gcell (peer c t) (.rcv t)) () nT

/-- At launch: that for all transfers, and the two neighbours' barrier cells. -/
def owed₀ (c : Dev nD) : CellTallies nD τ sig Unit := owedL c order + tallyAt (gcell (yn c) .bar) () 1 + tallyAt (gcell (xn c) .bar) () 1

/-- A cell's level: the barrier's above every fetch's and every issue's, the arrivals' above it in their order. -/
def lvC : Cell → ℕ | .bar => 1 | .rcv t => 2 + order.idxOf t | .dy | .w _ | .snd _ => 0

/-- Each semaphore of a device has one level, … -/
def L (g : GSem nD τ sig) : Finset Unit := if g.1.2 = .tc then {()} else ∅
/-- … its cell's. -/
def lv (g : GSem nD τ sig) (_ : Unit) : ℕ := match cellAt g.2 with | some i => lvC i | none => 0

/-- A semaphore elsewhere has none. -/
theorem L_of_ne (g : GSem nD τ sig) (h : g.1.2 ≠ .tc) : L g = ∅ := if_neg h
/-- A semaphore of a device has one. -/
theorem L_tc (c : Dev nD) (sm : SemLoc sig) : L ((c : Thread nD τ), sm) = {()} := if_pos rfl
/-- The level of a cell's semaphore. -/
theorem lv_cell (c : Dev nD) (i : Cell) (u : Unit) : lv (gcell c i) u = lvC i := by unfold lv; rw [cellAt_csem]

/-- What is owed for a list of transfers is owed to landing cells of their peers. -/
theorem owedL_pos {c : Dev nD} {l : List Xfer} {g : GSem nD τ sig} {u : Unit} (h : 0 < owedL c l g u) : ∃ t ∈ l, g = gcell (peer c t) (.rcv t) := by
  induction l with
  | nil => exact absurd h (Nat.lt_irrefl 0)
  | cons t l ih =>
    unfold owedL at h
    rw [Pi.add_apply, Finsupp.add_apply, tallyAt_apply] at h
    by_cases hg : g = gcell (peer c t) (.rcv t)
    · exact ⟨t, List.mem_cons_self, hg⟩
    · rw [if_neg (fun h' => hg h'.1), Nat.add_zero] at h
      obtain ⟨t', ht', e⟩ := ih h
      exact ⟨t', List.mem_cons_of_mem _ ht', e⟩

/-- What is owed at the start is owed to cells of the exchange, of levels above zero. -/
theorem owed₀_pos {c : Dev nD} {g : GSem nD τ sig} {u : Unit} (h : 0 < owed₀ c g u) :
    ∃ (d : Dev nD) (i : Cell), g = gcell d i ∧ 0 < lvC i := by
  unfold owed₀ at h
  rw [Pi.add_apply, Finsupp.add_apply, Pi.add_apply, Finsupp.add_apply, tallyAt_apply, tallyAt_apply] at h
  by_cases h1 : g = gcell (xn c) .bar
  · exact ⟨_, _, h1, Nat.one_pos⟩
  by_cases h2 : g = gcell (yn c) .bar
  · exact ⟨_, _, h2, Nat.one_pos⟩
  rw [if_neg (fun h' => h2 h'.1), if_neg (fun h' => h1 h'.1), Nat.add_zero] at h
  obtain ⟨t, -, e⟩ := owedL_pos h
  exact ⟨_, _, e, Nat.lt_of_lt_of_le (by decide) (Nat.le_add_right 2 _)⟩

/-- A device may wait on a cell of its own whose level is below that of every arrival it still owes. -/
theorem mayWait_list (c : Dev nD) (i : Cell) (l : List Xfer) (h : ∀ t ∈ l, lvC i < lvC (.rcv t)) :
    (levAts L lv : sProp 𝕄) ⊢ MayWait (c : Thread nD τ) (csem i) () (owedL c l) :=
  MayOwe.of_cut (L := L) (lev := lv) (lvC i) (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact le_of_eq (lv_cell c i ()))
    (fun g u hg => by obtain ⟨t, ht, rfl⟩ := owedL_pos hg; rw [lv_cell]; exact h t ht)

/-- At launch a device may wait on a semaphore that is no cell of the exchange. -/
theorem mayWait_stage (c : Dev nD) (q : SemLoc sig) (hq : cellAt q = none) (O : CellTallies nD τ sig Unit) (hO : O = owed₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by obtain ⟨d, i, rfl, -⟩ := owed₀_pos hg; exact Finset.mem_singleton_self _)
      (fun p hp => by rw [Finset.mem_singleton.mp hp]; unfold lv; rw [hq])
      (fun g u hg => by obtain ⟨d, i, rfl, hi⟩ := owed₀_pos hg; rw [lv_cell]; exact hi)
  · rw [MayWait_zero]; iintro -; iempintro

/-! ## The facts every step may use -/

/-- Every cell's invariant, under the names `K`, and that every cell has reached round 0. -/
def records (K : Dev nD × Cell → ℕ) : sProp 𝕄 :=
  iprop((bigSep Finset.univ fun ci : Dev nD × Cell => cellInv ER (sched m) (K ci) (gcell ci.1 ci.2))
    ∗ bigSep Finset.univ fun ci : Dev nD × Cell => reached ER (gcell ci.1 ci.2) 0)
/-- The cells, once set up, are known for good; -/
instance records_persistent (K : Dev nD × Cell → ℕ) : BI.Persistent (records (F := F) m K) := by unfold records; infer_instance

/-- These and the levels. -/
def env (K : Dev nD × Cell → ℕ) : sProp 𝕄 := iprop(records m K ∗ levAts L lv)
/-- so is what every device knows. -/
instance env_persistent (K : Dev nD × Cell → ℕ) : BI.Persistent (env (F := F) m K) := by unfold env; infer_instance

/-- From it: a cell is set up; -/
theorem env_inv (K : Dev nD × Cell → ℕ) (c : Dev nD) (i : Cell) : env (F := F) m K ⊢ cellInv ER (sched m) (K (c, i)) (gcell c i) := by
  unfold env records
  iintro ⟨⟨H, -⟩, -⟩
  iapply (show _ ⊢ _ from bigSep_elim (Φ := fun ci : Dev nD × Cell => (cellInv ER (sched m) (K ci) (gcell ci.1 ci.2) : sProp 𝕄)) (Finset.mem_univ (c, i)))
  iexact H
/-- its first round has begun; -/
theorem env_reached (K : Dev nD × Cell → ℕ) (c : Dev nD) (i : Cell) : env (F := F) m K ⊢ reached ER (gcell c i) 0 := by
  unfold env records
  iintro ⟨⟨-, H⟩, -⟩
  iapply (show _ ⊢ _ from bigSep_elim (Φ := fun ci : Dev nD × Cell => (reached ER (gcell ci.1 ci.2) 0 : sProp 𝕄)) (Finset.mem_univ (c, i)))
  iexact H
/-- and its level is known. -/
theorem env_lev (K : Dev nD × Cell → ℕ) : env (F := F) m K ⊢ levAts L lv := by
  unfold env
  iintro ⟨-, H⟩; iexact H

end Cert.Exchange

end
-- ==== Proof.Steps.lean ====
/-
# One step of the exchange

What each kind of memory operation of the kernel does to what a device holds: issuing a transfer, waiting for one to have
left or to have arrived, a fetch and its wait, the two barrier signals and the barrier wait, a load and a store through a
piece of a buffer. The transfers are treated alike, by an index.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

/-- A program a device runs, and its weakest precondition there. -/
abbrev PR (F : FTy → Type) (α : Type) : Type 1 := Prog (TpuEff nD τ sig (Elt F) Λ₀ .tc) α
@[inherit_doc PR] abbrev run (c : Dev nD) {α : Type} (p : PR F α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Cell → ℕ)

/-! ## What a device holds of the protocol -/

/-- It owes `O`. -/
def owing (c : Dev nD) (O : CellTallies nD τ sig Unit) : sProp 𝕄 := iprop(∃ W, owes (c : Thread nD τ) O W)

/-- For the transfers it has yet to issue: the right to pay both their cells, and its place at the first of them. -/
def outs (c : Dev nD) (l : List Xfer) : sProp 𝕄 :=
  bigSepL l fun t => iprop(dutyTok ER (gcell c (.snd t)) 0 false ∗ dutyTok ER (gcell (peer c t) (.rcv t)) 0 false ∗ atPos ER (gcell c (.snd t)) 0 ∅ 0)
/-- Where on its peers they land. -/
def lands (c : Dev nD) (l : List Xfer) : sProp 𝕄 := bigSepL l (landing c)
/-- For those whose arrival here it has yet to wait for. -/
def ins (c : Dev nD) (l : List Xfer) : sProp 𝕄 :=
  bigSepL l fun t => iprop(atPos ER (gcell c (.rcv t)) 0 ∅ 0 ∗ cred (tallyAt (gcell c (.rcv t)) () nT))
/-- For those issued that it has yet to wait for. -/
def fls (c : Dev nD) (l : List Xfer) : sProp 𝕄 :=
  bigSepL l fun t => iprop(atPos ER (gcell c (.snd t)) 0 ∅ 0 ∗ cred (tallyAt (gcell c (.snd t)) () nT))
/-- What arrived and is put by; what came back from transfers; the cells that are done. -/
def gots (c : Dev nD) (l : List Xfer) : sProp 𝕄 := bigSepL l fun t => pay m c (.rcv t) 0 false
@[inherit_doc gots] def backs (c : Dev nD) (l : List Xfer) : sProp 𝕄 := bigSepL l fun t => pay m c (.snd t) 0 false
@[inherit_doc gots] def zeros (c : Dev nD) (l : List Cell) : sProp 𝕄 := bigSepL l fun i => semVal (gcell c i) 0

/-- All of it: transfers yet to issue `o`, arrivals yet to wait for `i`, transfers in flight `f`; arrivals put by `g`,
    sources back `b`; cells done `z`. -/
def St (c : Dev nD) (o i f g b : List Xfer) (z : List Cell) : sProp 𝕄 :=
  iprop(owing c (owedL c o) ∗ outs c o ∗ lands c o ∗ ins c i ∗ fls c f ∗ gots m c g ∗ backs m c b ∗ zeros c z)

omit [FloatOps F] in
/-- A conjunction over a list, its head taken out and put back. -/
theorem cons_out {I : Type} (Φ : I → sProp 𝕄) (i : I) (l : List I) : bigSepL (i :: l) Φ ⊢ iprop(Φ i ∗ bigSepL l Φ) := by
  rw [bigSepL_cons]; exact Entails.refl _
omit [FloatOps F] in
@[inherit_doc cons_out] theorem cons_in {I : Type} (Φ : I → sProp 𝕄) (i : I) (l : List I) : iprop(Φ i ∗ bigSepL l Φ) ⊢ bigSepL (i :: l) Φ := by
  rw [bigSepL_cons]; exact Entails.refl _

/-! ## Waits on DMA cells -/

/-- The wait on a cell of the device's own, in a round of one duty: the round's payload, and the next round. -/
theorem wp_wait_cell (c : Dev nD) (i : Cell) (R : ℕ) (l : List Xfer) (hl : ∀ t ∈ l, lvC i < lvC (.rcv t)) (hdut : dut i R = {false})
    {sem : DmaSem sig} (hs : csem i = .dma sem) {sp sp' : Space} {s s' : Shape} {e e' : EltTy} {src : Memref sig .tc sp' s' e'} {dst : Memref sig .tc sp s e}
    (hN : dst.view.dmaCredit = amt i) {hsrc : src.view.WordExact} {hdst : dst.view.WordExact} {α : Type} {Q : α → sProp 𝕄} {k : PUnit → PR F α} :
    iprop(env m K ∗ owing c (owedL c l) ∗ atPos ER (gcell c i) R ∅ 0 ∗ cred (tallyAt (gcell c i) () (amt i)))
      ⊢ iprop(((owing c (owedL c l) ∗ atPos ER (gcell c i) (R + 1) ∅ 0 ∗ reached ER (gcell c i) (R + 1) ∗ pay m c i R false) -∗ run c (k ⟨⟩) Q)
          -∗ run c (.op (.waitDma2 sem src dst hsrc hdst) k) Q) := by
  unfold owing
  iintro ⟨#HE, ⟨%W, HO⟩, Hat, Hc⟩ Hk
  iapply (Rounds.wp_wait_rest_token 𝒱₀ ER (sched m) (c : Thread nD τ) none (κ := K (c, i)) (sm := csem i) (k' := amt i)
      (fun Kt => by rw [hs, ← hN]; exact wpE_waitDma2_eq 𝒱₀ (c : Thread nD τ) none Set.univ Kt) (Set.mem_univ _) () (O := owedL c l) (W := W) (R := R) (m := 0) (T := ∅)
      (by rw [Nat.zero_add]; exact (expect_one m c i R hdut).symm)) $$ [Hc HO Hat]
  · isplitr; · iapply (env_inv m K c i); iexact HE
    isplitl [Hc]; · iexact Hc
    isplitl [HO]; · iexact HO
    isplitr
    · iapply (mayWait_list c i l hl); iapply (env_lev m K); iexact HE
    iexact Hat
  iintro ⟨HO, Hat, Hr, Hpay⟩
  ihave Hp := (Entails.of_eq (rest_one m c i R hdut)) $$ Hpay
  iapply Hk
  isplitl [HO]; · iexists _; iexact HO
  isplitl [Hat]; · iexact Hat
  isplitl [Hr]; · iexact Hr
  iexact Hp

/-- A cell whose rounds are over closes: its counter is zero. -/
theorem close_cell (c : Dev nD) (i : Cell) (R : ℕ) (hR : ∀ r, R ≤ r → dut i r = ∅) :
    iprop(env m K ∗ atPos ER (gcell c i) R ∅ 0) ⊢ iprop(|={Set.univ}=> semVal (gcell c i) 0) := by
  iintro ⟨#HE, Hat⟩
  iapply (Rounds.cell_close ER (sched m) (Set.mem_univ (K (c, i))) (fun h => h) (R := R) (duties_after m c i R hR))
  isplitr; · iapply (env_inv m K c i); iexact HE
  iexact Hat

/-! ## Transfers -/

/-- What a transfer of `c` hands its peer. -/
theorem pay_rcv_peer (c : Dev nD) (t : Xfer) (r : ℕ) (d : Bool) :
    pay (F := F) m (peer c t) (.rcv t) r d = owns (peer c t : Thread nD τ) (dstM c t) fullShare (val m c t) := by
  show (owns (peer c t : Thread nD τ) (dstM (peer (peer c t) t) t) fullShare (val m (peer (peer c t) t) t) : sProp 𝕄) = _
  rw [peer_peer]

/-- Issuing the next transfer. -/
theorem wp_issue (c n : Dev nD) (t : Xfer) (o i f g b : List Xfer) (z : List Cell) (hn : n = peer c t)
    {src : Memref sig .tc .vmem S256x256 .bf16} {dst : Memref sig (Dev.tc n : Thread nD τ).2.kind .vmem S256x256 .bf16} {sS sem : SemLoc sig}
    (hs : src = srcM c t) (hd : dst = dstM c t) (hsS : sS = csem (.snd t)) (hsem' : sem = csem (.rcv t))
    {hsc : dst.view.ref.isScScratch = false} {hsrc : src.view.WordExact} {hdst : dst.view.WordExact} {hsem : DmaTarget.Typed .vmem sem (.remote (Dev.tc n : Thread nD τ) dst sS hsc)}
    {α : Type} {Q : α → sProp 𝕄} {k : PUnit → PR F α} :
    iprop(env m K ∗ St m c (t :: o) i f g b z ∗ owns (c : Thread nD τ) (srcM c t) (shareT t) (val m c t))
      ⊢ iprop((St m c o i (t :: f) g b z -∗ run c (k ⟨⟩) Q)
          -∗ run c (.op (.enqueueDma src (.remote (Dev.tc n : Thread nD τ) dst sS hsc) sem hsrc hdst hsem) k) Q) := by
  subst hn
  subst hs
  subst hsS
  subst hsem'
  have hd' : (dstM c t : Memref sig .tc .vmem S256x256 .bf16) = dst := hd.symm
  subst hd'
  unfold St owing outs lands
  iintro ⟨#HE, ⟨⟨%W, HO⟩, Ho, Hl, Hrest⟩, Hsrc⟩ Hk
  ihave Ho' := (cons_out _ t o) $$ Ho
  icases Ho' with ⟨⟨Ht1, Ht2, Hat⟩, Ho⟩
  ihave Hl' := (cons_out _ t o) $$ Hl
  icases Hl' with ⟨Hd, Hl⟩
  unfold landing held owns
  icases Hd with ⟨%X, %fd, -, Hd⟩
  icases Hsrc with ⟨%fs, %hfs, Hsrc⟩
  iapply (Rounds.wp_send_pointsTo 𝒱₀ ER (sched m) (c : Thread nD τ) none (κ₁ := K (c, .snd t)) (κ₂ := K (peer c t, .rcv t))
      (c' := (peer c t : Thread nD τ)) (dst := dstM c t) (src := srcM c t) (sS := csem (.snd t)) (sem := csem (.rcv t))
      (r₁ := 0) (r₂ := 0) (d₁ := false) (d₂ := false) (fd := fd) (fs := fs) (q := shareT t)
      (by rw [sched_duties]; exact Finset.mem_singleton_self _) (by rw [sched_duties]; exact Finset.mem_singleton_self _)
      () () nT (nT_dst c t) (sched_amount m c (.snd t) 0 false) (sched_amount m (peer c t) (.rcv t) 0 false) (owedL c o) rfl (W := W)
      (by
        rw [sched_payload]
        show _ ⊢ owns (c : Thread nD τ) (srcM c t) (shareT t) (val m c t)
        rw [← hfs]; exact owns_intro _ _ _ _)
      (by
        rw [sched_payload, pay_rcv_peer, ← hfs]
        have h := owns_intro (Ix := Unit) (Name := ℕ) (U := UU) (Lvl := ℕ) (peer c t : Thread nD τ) (dstM c t) fullShare
          ((dstM c t).view.write (Elt F) fd ((srcM c t).view.read (Elt F) fs) Finset.univ)
        rw [View.read_write_univ] at h
        exact h)) $$ [HO Hsrc Hd Ht1 Ht2]
  · isplitr; · iapply (env_inv m K c (.snd t)); iexact HE
    isplitr; · iapply (env_inv m K (peer c t) (.rcv t)); iexact HE
    isplitl [Hsrc]; · iexact Hsrc
    isplitl [Hd]; · iexact Hd
    isplitl [HO]; · iexact HO
    isplitl [Ht1]; · iexact Ht1
    isplitr; · iapply (env_reached m K c (.snd t)); iexact HE
    isplitl [Ht2]; · iexact Ht2
    iapply (env_reached m K (peer c t) (.rcv t)); iexact HE
  iintro ⟨Hc, HO⟩
  iapply Hk
  icases Hrest with ⟨Hi, Hf, Hz⟩
  isplitl [HO]; · iexists _; iexact HO
  isplitl [Ho]; · iexact Ho
  isplitl [Hl]; · iexact Hl
  isplitl [Hi]; · iexact Hi
  isplitl [Hf Hat Hc]
  · unfold fls
    iapply (cons_in _ t f)
    isplitl [Hat Hc]
    · isplitl [Hat]; · iexact Hat
      iexact Hc
    iexact Hf
  iexact Hz

/-- Waiting for the next arrival. -/
theorem wp_arrive (c : Dev nD) (t : Xfer) (o i f g b : List Xfer) (z : List Cell) (hl : ∀ t' ∈ o, lvC (.rcv t) < lvC (.rcv t'))
    {sem : DmaSem sig} (hs : csem (.rcv t) = .dma sem) {sp sp' : Space} {s s' : Shape} {e e' : EltTy} {src : Memref sig .tc sp' s' e'} {dst : Memref sig .tc sp s e}
    (hN : dst.view.dmaCredit = nT) {hsrc : src.view.WordExact} {hdst : dst.view.WordExact} {α : Type} {Q : α → sProp 𝕄} {k : PUnit → PR F α} :
    iprop(env m K ∗ St m c o (t :: i) f g b z)
      ⊢ iprop(((St m c o i f g b (.rcv t :: z) ∗ pay m c (.rcv t) 0 false) -∗ run c (k ⟨⟩) Q)
          -∗ run c (.op (.waitDma2 sem src dst hsrc hdst) k) Q) := by
  unfold St ins
  iintro ⟨#HE, ⟨HO, Ho, Hl, Hi, Hf, Hg, Hb, Hz⟩⟩ Hk
  ihave Hi' := (cons_out _ t i) $$ Hi
  icases Hi' with ⟨⟨Hat, Hc⟩, Hi⟩
  iapply (wp_wait_cell m K c (.rcv t) 0 o hl rfl hs (hN.trans rfl)) $$ [HO Hat Hc]
  · isplitr; · iexact HE
    isplitl [HO]; · iexact HO
    isplitl [Hat]; · iexact Hat
    iexact Hc
  iintro ⟨HO, Hat, -, Hp⟩
  imod (close_cell m K c (.rcv t) 1 (dut_after_one _ (fun j h => by cases h))) $$ [Hat] with Hz0
  · isplitr; · iexact HE
    iexact Hat
  iapply Hk
  isplitr [Hp]
  · isplitl [HO]; · iexact HO
    isplitl [Ho]; · iexact Ho
    isplitl [Hl]; · iexact Hl
    isplitl [Hi]; · iexact Hi
    isplitl [Hf]; · iexact Hf
    isplitl [Hg]; · iexact Hg
    isplitl [Hb]; · iexact Hb
    unfold zeros
    iapply (cons_in _ (.rcv t) z)
    isplitl [Hz0]; · iexact Hz0
    iexact Hz
  iexact Hp

/-- Putting an arrival by. -/
theorem St_keep (c : Dev nD) (t : Xfer) (o i f g b : List Xfer) (z : List Cell) :
    iprop(St m c o i f g b z ∗ pay m c (.rcv t) 0 false) ⊢ St m c o i f (t :: g) b z := by
  unfold St gots
  iintro ⟨⟨HO, Ho, Hl, Hi, Hf, Hg, Hb, Hz⟩, Hp⟩
  isplitl [HO]; · iexact HO
  isplitl [Ho]; · iexact Ho
  isplitl [Hl]; · iexact Hl
  isplitl [Hi]; · iexact Hi
  isplitl [Hf]; · iexact Hf
  isplitl [Hg Hp]
  · iapply (cons_in _ t g)
    isplitl [Hp]; · iexact Hp
    iexact Hg
  isplitl [Hb]; · iexact Hb
  iexact Hz

/-- Waiting for the next transfer in flight to have left. -/
theorem wp_sent (c : Dev nD) (t : Xfer) (i f g b : List Xfer) (z : List Cell)
    {sem : DmaSem sig} (hs : csem (.snd t) = .dma sem) {sp sp' : Space} {s s' : Shape} {e e' : EltTy} {src : Memref sig .tc sp' s' e'} {dst : Memref sig .tc sp s e}
    (hN : dst.view.dmaCredit = nT) {hsrc : src.view.WordExact} {hdst : dst.view.WordExact} {α : Type} {Q : α → sProp 𝕄} {k : PUnit → PR F α} :
    iprop(env m K ∗ St m c [] i (t :: f) g b z)
      ⊢ iprop((St m c [] i f g (t :: b) (.snd t :: z) -∗ run c (k ⟨⟩) Q)
          -∗ run c (.op (.waitDma2 sem src dst hsrc hdst) k) Q) := by
  unfold St fls
  iintro ⟨#HE, ⟨HO, Ho, Hl, Hi, Hf, Hg, Hb, Hz⟩⟩ Hk
  ihave Hf' := (cons_out _ t f) $$ Hf
  icases Hf' with ⟨⟨Hat, Hc⟩, Hf⟩
  iapply (wp_wait_cell m K c (.snd t) 0 [] (fun _ h => absurd h List.not_mem_nil) rfl hs (hN.trans rfl)) $$ [HO Hat Hc]
  · isplitr; · iexact HE
    isplitl [HO]; · iexact HO
    isplitl [Hat]; · iexact Hat
    iexact Hc
  iintro ⟨HO, Hat, -, Hp⟩
  imod (close_cell m K c (.snd t) 1 (dut_after_one _ (fun j h => by cases h))) $$ [Hat] with Hz0
  · isplitr; · iexact HE
    iexact Hat
  iapply Hk
  isplitl [HO]; · iexact HO
  isplitl [Ho]; · iexact Ho
  isplitl [Hl]; · iexact Hl
  isplitl [Hi]; · iexact Hi
  isplitl [Hf]; · iexact Hf
  isplitl [Hg]; · iexact Hg
  isplitl [Hb Hp]
  · unfold backs
    iapply (cons_in _ t b)
    isplitl [Hp]; · iexact Hp
    iexact Hb
  unfold zeros
  iapply (cons_in _ (.snd t) z)
  isplitl [Hz0]; · iexact Hz0
  iexact Hz

/-! ## Fetches -/

/-- What a fetch leaves of its source and its destination. -/
theorem fetched (c : Dev nD) {S : Shape} (B : Ref sig .tc) {s : Shape} {e : EltTy} {src : Memref sig .tc .hbm s e} {dst : Memref sig .tc .vmem s e}
    (q : PosShare TreeShare) (f : Buf (Elt F) (src.view.loc (c : Thread nD τ))) (fd : Buf (Elt F) (dst.view.loc (c : Thread nD τ))) :
    iprop(((dst.view.loc (c : Thread nD τ) ↦[dst.view.set]{fullShare} dst.view.write (Elt F) fd (src.view.read (Elt F) f) Finset.univ)
          ∗ (src.view.loc (c : Thread nD τ) ↦[Finset.univ \ src.view.set]{q} f))
        ∗ (src.view.loc (c : Thread nD τ) ↦[src.view.set]{q} f))
      ⊢ (iprop(owns (c : Thread nD τ) dst fullShare (src.view.read (Elt F) f) ∗ (src.view.loc (c : Thread nD τ) ↦{q} f)) : sProp 𝕄) := by
  iintro ⟨⟨Hd, Hr⟩, Hs⟩
  isplitl [Hd]
  · have h := owns_intro (Ix := Unit) (Name := ℕ) (U := UU) (Lvl := ℕ) (c : Thread nD τ) dst fullShare (dst.view.write (Elt F) fd (src.view.read (Elt F) f) Finset.univ)
    rw [View.read_write_univ] at h
    iapply h; iexact Hd
  iapply (pointsTo_split_subset (Finset.subset_univ src.view.set)).2
  isplitl [Hs]; · iexact Hs
  iexact Hr

/-- A fetch out of a buffer held whole at a share, paying duty `false` of round `r` of the device's cell `i`. -/
theorem wp_fetch (c : Dev nD) (i : Cell) (r : ℕ) (hdut : dut i r = {false}) {s : Shape} {e : EltTy} {src : Memref sig .tc .hbm s e} {dst : Memref sig .tc .vmem s e}
    {sem : SemLoc sig} (hs : sem = csem i) (hN : dst.view.dmaCredit = amt i) (q : PosShare TreeShare) (f : Buf (Elt F) (src.view.loc (c : Thread nD τ)))
    (hpay : iprop(owns (c : Thread nD τ) dst fullShare (src.view.read (Elt F) f) ∗ (src.view.loc (c : Thread nD τ) ↦{q} f)) ⊢ pay m c i r false)
    {hsrc : src.view.WordExact} {hdst : dst.view.WordExact} {hsem : DmaTarget.Typed (nD := nD) .hbm sem (DmaTarget.here (p := (c : Thread nD τ).2) dst)} {α : Type} {Q : α → sProp 𝕄} {k : PUnit → PR F α}
    (hi : ∃ x, csem i = .dma x) :
    iprop(env m K ∗ (src.view.loc (c : Thread nD τ) ↦{q} f) ∗ held c dst ∗ dutyTok ER (gcell c i) r false ∗ reached ER (gcell c i) r)
      ⊢ iprop((cred (tallyAt (gcell c i) () (amt i)) -∗ run c (k ⟨⟩) Q)
          -∗ run c (.op (.enqueueDma src (.here dst) sem hsrc hdst hsem) k) Q) := by
  subst hs
  unfold held owns
  iintro ⟨#HE, Hsrc, ⟨%X, %fd, -, Hd⟩, Ht, Hr⟩ Hk
  ihave Hs := (pointsTo_split_subset (Finset.subset_univ src.view.set)).1 $$ Hsrc
  icases Hs with ⟨Hs, Hrest⟩
  iapply (Rounds.wp_copy 𝒱₀ ER (sched m) (c : Thread nD τ) none (κ := K (c, i)) (q := q) (fs := f) (r := r) (d := false) (sem := csem i)
      (R := iprop((dst.view.loc (c : Thread nD τ) ↦[dst.view.set]{fullShare} dst.view.write (Elt F) fd (src.view.read (Elt F) f) Finset.univ)
          ∗ (src.view.loc (c : Thread nD τ) ↦[Finset.univ \ src.view.set]{q} f)))
      (by rw [sched_duties, hdut]; exact Finset.mem_singleton_self _) () (amt i)
      (by obtain ⟨x, hx⟩ := hi; rw [hx]; exact hN) (sched_amount m c i r false)
      (by rw [sched_payload]; exact (fetched (S := s) c main_arg0 q f fd).trans hpay)) $$ [Hs Hrest Hd Ht Hr]
  · isplitr; · iapply (env_inv m K c i); iexact HE
    isplitl [Hs]; · iexact Hs
    isplitl [Hd Hrest]
    · iapply (writeUpdate_frame (c : Thread nD τ))
      isplitl [Hd]
      · iapply (pointsTo_writeUpdate (c : Thread nD τ) (v := dst.view) subset_rfl); iexact Hd
      iexact Hrest
    isplitl [Ht]; · iexact Ht
    iexact Hr
  iexact Hk

/-! ### The fetch of the first argument's rows -/

/-- The rows' fetch, before and while it runs. -/
def dIdle (c : Dev nD) : sProp 𝕄 := iprop(atPos ER (gcell c .dy) 0 ∅ 0 ∗ dutyTok ER (gcell c .dy) 0 false ∗ aPts m c)
@[inherit_doc dIdle] def dBusy (c : Dev nD) : sProp 𝕄 := iprop(atPos ER (gcell c .dy) 0 ∅ 0 ∗ cred (tallyAt (gcell c .dy) () nA))

/-- The rows of the first argument are fetched: … -/
theorem wp_fetch_d (c : Dev nD) {sem : SemLoc sig} (hs : sem = csem .dy)
    {hsrc : (aRows c).view.WordExact} {hdst : dvM.view.WordExact} {hsem : DmaTarget.Typed (nD := nD) .hbm sem (DmaTarget.here (p := (c : Thread nD τ).2) dvM)}
    {α : Type} {Q : α → sProp 𝕄} {k : PUnit → PR F α} :
    iprop(env m K ∗ dIdle m c ∗ held c dvM)
      ⊢ iprop((dBusy c -∗ run c (k ⟨⟩) Q) -∗ run c (.op (.enqueueDma (aRows c) (.here dvM) sem hsrc hdst hsem) k) Q) := by
  unfold dIdle dBusy aPts
  iintro ⟨#HE, ⟨Hat, Ht, Ha⟩, Hd⟩ Hk
  iapply (wp_fetch m K c .dy 0 rfl hs (src := aRows c) rfl fullShare (m ((c : Thread nD τ).loc main_arg0)) (Entails.refl _) ⟨_, rfl⟩) $$ [Ha Hd Ht]
  · isplitr; · iexact HE
    isplitl [Ha]; · iexact Ha
    isplitl [Hd]; · iexact Hd
    isplitl [Ht]; · iexact Ht
    iapply (env_reached m K c .dy); iexact HE
  iintro Hc
  iapply Hk
  isplitl [Hat]; · iexact Hat
  iexact Hc

/-- … and here, once waited for. -/
theorem wp_fetched_d (c : Dev nD) (o i f g b : List Xfer) (z : List Cell) (hl : ∀ t ∈ o, lvC .dy < lvC (.rcv t)) {sem : DmaSem sig} (hs : csem .dy = .dma sem)
    {src : Memref sig .tc .hbm S512x4096 .f32} {hsrc : src.view.WordExact} {hdst : dvM.view.WordExact} {α : Type} {Q : α → sProp 𝕄} {k : PUnit → PR F α} :
    iprop(env m K ∗ St m c o i f g b z ∗ dBusy c)
      ⊢ iprop(((St m c o i f g b (.dy :: z) ∗ owns (c : Thread nD τ) dvM fullShare (rowsA m c) ∗ aPts m c) -∗ run c (k ⟨⟩) Q)
          -∗ run c (.op (.waitDma2 sem src dvM hsrc hdst) k) Q) := by
  unfold St dBusy
  iintro ⟨#HE, ⟨HO, Hx⟩, Hat, Hc⟩ Hk
  iapply (wp_wait_cell m K c .dy 0 o hl rfl hs (dst := dvM) rfl) $$ [HO Hat Hc]
  · isplitr; · iexact HE
    isplitl [HO]; · iexact HO
    isplitl [Hat]; · iexact Hat
    iexact Hc
  iintro ⟨HO, Hat, -, Hp⟩
  imod (close_cell m K c .dy 1 (dut_after_one _ (fun j h => by cases h))) $$ [Hat] with Hz0
  · isplitr; · iexact HE
    iexact Hat
  iapply Hk
  isplitr [Hp]
  · icases Hx with ⟨Ho, Hl, Hi, Hf, Hg, Hb, Hz⟩
    isplitl [HO]; · iexact HO
    isplitl [Ho]; · iexact Ho
    isplitl [Hl]; · iexact Hl
    isplitl [Hi]; · iexact Hi
    isplitl [Hf]; · iexact Hf
    isplitl [Hg]; · iexact Hg
    isplitl [Hb]; · iexact Hb
    unfold zeros
    iapply (cons_in _ .dy z)
    isplitl [Hz0]; · iexact Hz0
    iexact Hz
  iapply (show pay m c .dy 0 false ⊢ iprop(owns (c : Thread nD τ) dvM fullShare (rowsA m c) ∗ aPts m c) from Entails.refl _); iexact Hp

/-! ### The fetches of the second argument's chunks -/

/-- The rights to pay slot `j`'s cell in round `r` and those after. -/
def toks (c : Dev nD) (j : Fin 2) : ℕ → sProp 𝕄
  | 0 => iprop(dutyTok ER (gcell c (.w j)) 0 false ∗ dutyTok ER (gcell c (.w j)) 1 false)
  | 1 => dutyTok ER (gcell c (.w j)) 1 false
  | _ => iprop(emp)

omit [FloatOps F] in
/-- The tokens for the fetches into a slot, the next one taken out. -/
theorem toks_out (c : Dev nD) (j : Fin 2) (r : ℕ) (hr : r ≤ 1) : toks (F := F) c j r ⊢ iprop(dutyTok ER (gcell c (.w j)) r false ∗ toks c j (r + 1)) := by
  rcases Nat.le_one_iff_eq_zero_or_eq_one.mp hr with rfl | rfl
  · exact Entails.refl _
  · exact (sep_emp (PROP := sProp 𝕄)).2

/-- Slot `j` before its fetch of round `r`, and while it runs. -/
def wIdle (c : Dev nD) (j : Fin 2) (r : ℕ) : sProp 𝕄 :=
  iprop(atPos ER (gcell c (.w j)) r ∅ 0 ∗ reached ER (gcell c (.w j)) r ∗ toks c j r ∗ bPts m c (shareW j))
@[inherit_doc wIdle] def wBusy (c : Dev nD) (j : Fin 2) (r : ℕ) : sProp 𝕄 :=
  iprop(atPos ER (gcell c (.w j)) r ∅ 0 ∗ cred (tallyAt (gcell c (.w j)) () nB) ∗ toks c j (r + 1))

/-- A chunk is fetched into a slot: … -/
theorem wp_fetch_w (c : Dev nD) (j : Fin 2) (r : ℕ) (hr : r ≤ 1) {src : Memref sig .tc .hbm S256x4096 .f32} {dst : Memref sig .tc .vmem S256x4096 .f32}
    {sem : SemLoc sig} (hsr : src = bRows (chunkOf r j)) (hd : dst = wvQ j) (hs : sem = csem (.w j))
    {hsrc : src.view.WordExact} {hdst : dst.view.WordExact} {hsem : DmaTarget.Typed (nD := nD) .hbm sem (DmaTarget.here (p := (c : Thread nD τ).2) dst)}
    {α : Type} {Q : α → sProp 𝕄} {k : PUnit → PR F α} :
    iprop(env m K ∗ wIdle m c j r ∗ held c (wvQ j))
      ⊢ iprop((wBusy c j r -∗ run c (k ⟨⟩) Q) -∗ run c (.op (.enqueueDma src (.here dst) sem hsrc hdst hsem) k) Q) := by
  subst hsr hd
  unfold wIdle wBusy bPts
  iintro ⟨#HE, ⟨Hat, Hr, Ht, Hb⟩, Hd⟩ Hk
  ihave Ht' := (toks_out c j r hr) $$ Ht
  icases Ht' with ⟨Ht, Hts⟩
  iapply (wp_fetch m K c (.w j) r (if_pos hr) hs (src := bRows (chunkOf r j)) (nB_dst j) (shareW j) (m ((c : Thread nD τ).loc main_arg1)) (Entails.refl _) ⟨_, rfl⟩) $$ [Hb Hd Ht Hr]
  · isplitr; · iexact HE
    isplitl [Hb]; · iexact Hb
    isplitl [Hd]; · iexact Hd
    isplitl [Ht]; · iexact Ht
    iexact Hr
  iintro Hc
  iapply Hk
  isplitl [Hat]; · iexact Hat
  isplitl [Hc]; · iexact Hc
  iexact Hts

/-- … and there, once waited for. -/
theorem wp_fetched_w (c : Dev nD) (j : Fin 2) (r : ℕ) (hr : r ≤ 1) (o i f g b : List Xfer) (z : List Cell) (hl : ∀ t ∈ o, lvC (.w j) < lvC (.rcv t))
    {sem : DmaSem sig} (hs : csem (.w j) = .dma sem) {src dst : Memref sig .tc .vmem S256x4096 .f32} {src' : Memref sig .tc .hbm S256x4096 .f32}
    (hN : dst.view.dmaCredit = nB) {hsrc : src'.view.WordExact} {hdst : dst.view.WordExact} {α : Type} {Q : α → sProp 𝕄} {k : PUnit → PR F α} :
    iprop(env m K ∗ St m c o i f g b z ∗ wBusy c j r)
      ⊢ iprop(((St m c o i f g b z ∗ wIdle m c j (r + 1) ∗ owns (c : Thread nD τ) (wvQ j) fullShare (chunkB m c (chunkOf r j))) -∗ run c (k ⟨⟩) Q)
          -∗ run c (.op (.waitDma2 sem src' dst hsrc hdst) k) Q) := by
  unfold St wBusy wIdle
  iintro ⟨#HE, ⟨HO, Hx⟩, Hat, Hc, Hts⟩ Hk
  iapply (wp_wait_cell m K c (.w j) r o hl (if_pos hr) hs (dst := dst) (hN.trans rfl)) $$ [HO Hat Hc]
  · isplitr; · iexact HE
    isplitl [HO]; · iexact HO
    isplitl [Hat]; · iexact Hat
    iexact Hc
  iintro ⟨HO, Hat, Hr, Hp⟩
  ihave Hp' := (show pay m c (.w j) r false ⊢ iprop(owns (c : Thread nD τ) (wvQ j) fullShare (chunkB m c (chunkOf r j)) ∗ bPts m c (shareW j)) from Entails.refl _) $$ Hp
  icases Hp' with ⟨Hw, Hb⟩
  iapply Hk
  isplitl [HO Hx]
  · isplitl [HO]; · iexact HO
    iexact Hx
  isplitl [Hat Hr Hts Hb]
  · isplitl [Hat]; · iexact Hat
    isplitl [Hr]; · iexact Hr
    isplitl [Hts]; · iexact Hts
    iexact Hb
  iexact Hw

/-- The fetches of a slot done. -/
theorem close_w (c : Dev nD) (j : Fin 2) :
    iprop(env m K ∗ wIdle m c j 2) ⊢ iprop(|={Set.univ}=> (semVal (gcell c (.w j)) 0 ∗ bPts m c (shareW j))) := by
  unfold wIdle
  iintro ⟨#HE, Hat, -, -, Hb⟩
  imod (close_cell m K c (.w j) 2 (dut_after_two j)) $$ [Hat] with Hz
  · isplitr; · iexact HE
    iexact Hat
  imodintro
  isplitl [Hz]; · iexact Hz
  iexact Hb

/-! ## The barrier -/

/-- Handing the neighbour along `x` the landing places of its transfers along `x`. -/
theorem wp_signal_x (c n : Dev nD) (hn : n = xn c) {sem : Sem sig} (hs : sem = barS) {α : Type} {Q : α → sProp 𝕄} {k : PUnit → PR F α} :
    iprop(env m K ∗ owing c (owed₀ c) ∗ dutyTok ER (gcell (xn c) .bar) 0 true ∗ lands (xn c) (along true))
      ⊢ iprop((owing c (owedL c order + tallyAt (gcell (yn c) .bar) () 1) -∗ run c (k ⟨⟩) Q)
          -∗ run c (.op (.semSignal (n : Thread nD τ) sem 1) k) Q) := by
  subst hn hs
  unfold owing
  iintro ⟨#HE, ⟨%W, HO⟩, Ht, Hl⟩ Hk
  iapply (Rounds.wp_signal 𝒱₀ ER (sched m) (c : Thread nD τ) none (dst := (xn c : Thread nD τ)) (κ := K (xn c, .bar)) (d := true) (r := 0)
      (by show true ∈ (sched m).duties (gcell (xn c) .bar) 0; rw [sched_duties]; exact Finset.mem_univ _) (sched_amount m (xn c) .bar 0 true) ()
      (owedL c order + tallyAt (gcell (yn c) .bar) () 1) rfl (W := W)) $$ [HO Ht Hl]
  · isplitr; · iapply (env_inv m K (xn c) .bar); iexact HE
    isplitl [HO]; · iexact HO
    isplitl [Ht]; · iexact Ht
    isplitl [Hl]
    · iapply (show lands (xn c) (along true) ⊢ (sched m).payload ((xn c : Thread nD τ), .reg barS) 0 true from Entails.of_eq (sched_payload m (xn c) .bar 0 true).symm); iexact Hl
    iapply (env_reached m K (xn c) .bar); iexact HE
  iintro HO
  iapply Hk
  iexists W; iexact HO

/-- Handing the neighbour along `y` those of its transfers along `y`. -/
theorem wp_signal_y (c n : Dev nD) (hn : n = yn c) {sem : Sem sig} (hs : sem = barS) {α : Type} {Q : α → sProp 𝕄} {k : PUnit → PR F α} :
    iprop(env m K ∗ owing c (owedL c order + tallyAt (gcell (yn c) .bar) () 1) ∗ dutyTok ER (gcell (yn c) .bar) 0 false ∗ lands (yn c) (along false))
      ⊢ iprop((owing c (owedL c order) -∗ run c (k ⟨⟩) Q) -∗ run c (.op (.semSignal (n : Thread nD τ) sem 1) k) Q) := by
  subst hn hs
  unfold owing
  iintro ⟨#HE, ⟨%W, HO⟩, Ht, Hl⟩ Hk
  iapply (Rounds.wp_signal 𝒱₀ ER (sched m) (c : Thread nD τ) none (dst := (yn c : Thread nD τ)) (κ := K (yn c, .bar)) (d := false) (r := 0)
      (by show false ∈ (sched m).duties (gcell (yn c) .bar) 0; rw [sched_duties]; exact Finset.mem_univ _) (sched_amount m (yn c) .bar 0 false) ()
      (owedL c order) rfl (W := W)) $$ [HO Ht Hl]
  · isplitr; · iapply (env_inv m K (yn c) .bar); iexact HE
    isplitl [HO]; · iexact HO
    isplitl [Ht]; · iexact Ht
    isplitl [Hl]
    · iapply (show lands (yn c) (along false) ⊢ (sched m).payload ((yn c : Thread nD τ), .reg barS) 0 false from Entails.of_eq (sched_payload m (yn c) .bar 0 false).symm); iexact Hl
    iapply (env_reached m K (yn c) .bar); iexact HE
  iintro HO
  iapply Hk
  iexists W; iexact HO

/-- The barrier: both neighbours have handed over, and every transfer has its landing place. -/
theorem wp_barrier (c : Dev nD) {sem : Sem sig} (hs : sem = barS) {α : Type} {Q : α → sProp 𝕄} {k : PUnit → PR F α} :
    iprop(env m K ∗ owing c (owedL c order) ∗ atPos ER (gcell c .bar) 0 ∅ 0 ∗ cred (tallyAt (gcell c .bar) () 2))
      ⊢ iprop(((owing c (owedL c order) ∗ lands c order ∗ semVal (gcell c .bar) 0) -∗ run c (k ⟨⟩) Q) -∗ run c (.op (.semWait sem 2) k) Q) := by
  subst hs
  unfold owing
  iintro ⟨#HE, ⟨%W, HO⟩, Hat, Hc⟩ Hk
  iapply (Rounds.wp_wait_rest_token 𝒱₀ ER (sched m) (c : Thread nD τ) none (κ := K (c, .bar)) (sm := csem .bar) (k' := 2)
      (wpE_semWait_eq 𝒱₀ (c : Thread nD τ) none Set.univ) (Set.mem_univ _) () (O := owedL c order) (W := W) (R := 0) (m := 0) (T := ∅)
      (by rw [Nat.zero_add]; exact (expect_bar m c).symm)) $$ [Hc HO Hat]
  · isplitr; · iapply (env_inv m K c .bar); iexact HE
    isplitl [Hc]; · iexact Hc
    isplitl [HO]; · iexact HO
    isplitr
    · iapply (mayWait_list c .bar order (by decide)); iapply (env_lev m K); iexact HE
    iexact Hat
  iintro ⟨HO, Hat, -, Hpay⟩
  ihave Hp := (Entails.of_eq (rest_bar m c)) $$ Hpay
  imod (close_cell m K c .bar 1 (dut_after_one _ (fun j h => by cases h))) $$ [Hat] with Hz0
  · isplitr; · iexact HE
    iexact Hat
  iapply Hk
  isplitl [HO]; · iexists _; iexact HO
  isplitl [Hp]; · unfold lands; iexact Hp
  iexact Hz0

/-! ## Loads and stores through a piece -/

section Pieces

variable (c : Dev nD) {cs : CoreSpace} {s : Shape} {e : EltTy} {M : Memref sig .tc cs s e} {r : Rect s}

/-- A load through part of a piece held: the piece's values there. -/
theorem wp_load_part {r₀ : Rect s} (hr₀ : ∀ a, r₀.stride a = 1) (φ : r.shape.Idx → r₀.shape.Idx) (hφ : ∀ j, r.emb j = r₀.emb (φ j))
    {hl : M.view.LoadsAt r.toLoadRect} {q : PosShare TreeShare} {X : r₀.shape.Idx → Elt F e} {α : Type} {Q : α → sProp 𝕄} {k : (r.shape.Idx → Elt F e) → PR F α} :
    owns (c : Thread nD τ) (M.slice r₀ hr₀) q X
      ⊢ iprop((owns (c : Thread nD τ) (M.slice r₀ hr₀) q X -∗ run c (k fun j => X (φ j)) Q) -∗ run c (.op (.load M r.toLoadRect hl) k) Q) := by
  unfold owns
  iintro ⟨%f, %hf, H⟩ Hk
  iapply (wp_load_rect 𝒱₀ (c : Thread nD τ) none Set.univ (m := M) (r := r) (S := (M.slice r₀ hr₀).view.set) (f := f) (by
      intro x hx
      rw [View.set, Finset.mem_map] at hx
      obtain ⟨j, -, rfl⟩ := hx
      have h : (M.access r).emb j = (M.slice r₀ hr₀).view.emb (φ j) := congrArg M.view.emb (hφ j)
      rw [h]; exact View.emb_mem_set _ _)) $$ H
  iintro H
  have hx : (M.access r).read (Elt F) f = fun j => X (φ j) := by
    funext j
    rw [← hf]
    show _root_.cast _ (f (M.view.emb (r.emb j))) = _root_.cast _ (f (M.view.emb (r₀.emb (φ j))))
    rw [hφ j]
  rw [hx]
  iapply Hk
  iexists f
  isplitr; · ipureintro; exact hf
  iexact H

variable {hr : ∀ a, r.stride a = 1}

/-- A load through a piece held. -/
theorem wp_load_piece (N : Memref sig .tc cs r.shape e) (hN : M.slice r hr = N)
    {hl : M.view.LoadsAt r.toLoadRect} {q : PosShare TreeShare} {X : r.shape.Idx → Elt F e} {α : Type} {Q : α → sProp 𝕄} {k : (r.shape.Idx → Elt F e) → PR F α} :
    owns (c : Thread nD τ) N q X
      ⊢ iprop((owns (c : Thread nD τ) N q X -∗ run c (k X) Q) -∗ run c (.op (.load M r.toLoadRect hl) k) Q) := by
  subst hN
  exact wp_load_part c hr (fun j => j) (fun _ => rfl)

/-- A store through a piece held, whatever it held. -/
theorem wp_store_piece (N : Memref sig .tc cs r.shape e) (hN : M.slice r hr = N) {w : r.shape.Idx → Elt F e}
    {hx : (M.access r).Stores Finset.univ} {hm : (Finset.univ : Finset r.shape.Idx) = Finset.univ ∨ ∀ a, r.stride a = 1}
    {X : r.shape.Idx → Elt F e} {α : Type} {Q : α → sProp 𝕄} {k : PUnit → PR F α} :
    owns (c : Thread nD τ) N fullShare X
      ⊢ iprop((owns (c : Thread nD τ) N fullShare w -∗ run c (k ⟨⟩) Q) -∗ run c (.op (.store M r w Finset.univ hx hm) k) Q) := by
  subst hN
  iintro H Hk
  ihave H' := (show owns (c : Thread nD τ) (M.slice r hr) fullShare X
    ⊢ iprop(∃ f, ⌜(M.slice r hr).view.read (Elt F) f = X⌝ ∗ ((M.slice r hr).view.loc (c : Thread nD τ) ↦[(M.slice r hr).view.set]{fullShare} f)) from Entails.refl _) $$ H
  icases H' with ⟨%f, -, H⟩
  iapply (wp_store 𝒱₀ (c : Thread nD τ) none Set.univ (m := M) (r := r) (Mk := Finset.univ) (S := (M.slice r hr).view.set) (f := f) (Finset.Subset.refl _)) $$ H
  iintro H
  iapply Hk
  have h := owns_intro (Ix := Unit) (Name := ℕ) (U := UU) (Lvl := ℕ) (c : Thread nD τ) (M.slice r hr) fullShare ((M.access r).write (Elt F) f w Finset.univ)
  rw [show (M.slice r hr).view.read (Elt F) ((M.access r).write (Elt F) f w Finset.univ) = w from View.read_write_univ _ _] at h
  iapply h; iexact H

/-- A load whose value goes nowhere and a store, through a piece held. -/
theorem wp_overwrite (N : Memref sig .tc cs r.shape e) (hN : M.slice r hr = N) {w : r.shape.Idx → Elt F e}
    {hl : M.view.LoadsAt r.toLoadRect} {hx : (M.access r).Stores Finset.univ} {hm : (Finset.univ : Finset r.shape.Idx) = Finset.univ ∨ ∀ a, r.stride a = 1}
    {α : Type} {Q : α → sProp 𝕄} {k : PUnit → PR F α} :
    held c N
      ⊢ iprop((owns (c : Thread nD τ) N fullShare w -∗ run c (k ⟨⟩) Q)
          -∗ run c (.op (.load M r.toLoadRect hl) fun _ => .op (.store M r w Finset.univ hx hm) k) Q) := by
  unfold held
  iintro ⟨%X, H⟩ Hk
  iapply (wp_load_piece c N hN) $$ H
  iintro H
  iapply (wp_store_piece c N hN) $$ H
  iexact Hk

end Pieces

/-- The origin of an array of two axes. -/
theorem zero2 : (![0, 0] : Fin 2 → Nat) = fun _ => 0 := funext fun a => by fin_cases a <;> rfl

/-- A load of the rows as fetched, all of them; the same of the rows narrowed; a store of these. -/
theorem wp_load_dv (c : Dev nD) {p} {hl : dvM.view.LoadsAt (Rect.unit (s := S512x4096) ![0, 0] S512x4096.size p).toLoadRect}
    {X : S512x4096.Idx → Elt F .f32} {α : Type} {Q : α → sProp 𝕄} {k : (S512x4096.Idx → Elt F .f32) → PR F α} :
    owns (c : Thread nD τ) dvM fullShare X
      ⊢ iprop((owns (c : Thread nD τ) dvM fullShare X -∗ run c (k X) Q)
          -∗ run c (.op (.load dvM (Rect.unit (s := S512x4096) ![0, 0] S512x4096.size p).toLoadRect hl) k) Q) := by
  rw [owns_whole]
  have h := wp_load (defs := defs₀ (F := F)) (Γ := .empty) (Ix := Unit) (Name := ℕ) (U := UU) (Lvl := ℕ) (Q := Q) (k := k) (hl := hl) (q := fullShare) (f := X) 𝒱₀ (c : Thread nD τ) none Set.univ (m := dvM) (Finset.subset_univ _)
  rw [show dvM.view.readAt (Elt F) (Rect.unit (s := S512x4096) ![0, 0] S512x4096.size p).toLoadRect X = X from Memref.readAt_unit_zero (Elt F) cc0_scratch0 zero2 p X] at h
  exact h
@[inherit_doc wp_load_dv] theorem wp_load_db (c : Dev nD) {p} {hl : dbM.view.LoadsAt (Rect.unit (s := S512x4096) ![0, 0] S512x4096.size p).toLoadRect}
    {X : S512x4096.Idx → Elt F .bf16} {α : Type} {Q : α → sProp 𝕄} {k : (S512x4096.Idx → Elt F .bf16) → PR F α} :
    owns (c : Thread nD τ) dbM fullShare X
      ⊢ iprop((owns (c : Thread nD τ) dbM fullShare X -∗ run c (k X) Q)
          -∗ run c (.op (.load dbM (Rect.unit (s := S512x4096) ![0, 0] S512x4096.size p).toLoadRect hl) k) Q) := by
  rw [owns_whole]
  have h := wp_load (defs := defs₀ (F := F)) (Γ := .empty) (Ix := Unit) (Name := ℕ) (U := UU) (Lvl := ℕ) (Q := Q) (k := k) (hl := hl) (q := fullShare) (f := X) 𝒱₀ (c : Thread nD τ) none Set.univ (m := dbM) (Finset.subset_univ _)
  rw [show dbM.view.readAt (Elt F) (Rect.unit (s := S512x4096) ![0, 0] S512x4096.size p).toLoadRect X = X from Memref.readAt_unit_zero (Elt F) cc0_scratch1 zero2 p X] at h
  exact h
@[inherit_doc wp_load_dv] theorem wp_store_db (c : Dev nD) {p} {w : S512x4096.Idx → Elt F .bf16}
    {hx : (dbM.access (Rect.unit (s := S512x4096) ![0, 0] S512x4096.size p)).Stores Finset.univ} {hm}
    {X : S512x4096.Idx → Elt F .bf16} {α : Type} {Q : α → sProp 𝕄} {k : PUnit → PR F α} :
    owns (c : Thread nD τ) dbM fullShare X
      ⊢ iprop((owns (c : Thread nD τ) dbM fullShare w -∗ run c (k ⟨⟩) Q)
          -∗ run c (.op (.store dbM (Rect.unit (s := S512x4096) ![0, 0] S512x4096.size p) w Finset.univ hx hm) k) Q) := by
  rw [owns_whole, owns_whole]
  have h := wp_store (defs := defs₀ (F := F)) (Γ := .empty) (Ix := Unit) (Name := ℕ) (U := UU) (Lvl := ℕ) (Q := Q) (k := k) (w := w) (hx := hx) (hm := hm) (f := X) 𝒱₀ (c : Thread nD τ) none Set.univ (m := dbM)
    (r := Rect.unit (s := S512x4096) ![0, 0] S512x4096.size p) (Mk := Finset.univ) (Finset.subset_univ _)
  rw [show (dbM.access (Rect.unit (s := S512x4096) ![0, 0] S512x4096.size p) : View sig .tc _ _ _).write (Elt F) X w Finset.univ = w from
    Memref.write_access_unit_zero_univ (Elt F) cc0_scratch1 zero2 p X w] at h
  exact h

/-- A piece with an axis of size one dropped, held: the piece, held. -/
theorem owns_squeeze (c : Dev nD) {sp : Space} {s s' : Shape} {e : EltTy} (N : Memref sig .tc sp s e) (h : s.Squeezes s') (q : PosShare TreeShare) (X : s.Idx → Elt F e) :
    (owns (c : Thread nD τ) (N.squeeze s' h) q (fun j => X (Shape.reshapeEquiv h.numel_eq j)) : sProp 𝕄) = owns (c : Thread nD τ) N q X := by
  unfold owns
  rw [Memref.view_squeeze, View.set_reshape]
  have hiff (f : N.view.ty.Contents (Elt F)) : ((N.view.reshape s' h.numel_eq).read (Elt F) f = fun j => X (Shape.reshapeEquiv h.numel_eq j)) = (N.view.read (Elt F) f = X) := by
    refine propext ⟨fun hf => ?_, fun hf => ?_⟩
    · funext x
      have := congrFun hf ((Shape.reshapeEquiv h.numel_eq).symm x)
      rw [Equiv.apply_symm_apply] at this
      rw [← this]
      show _root_.cast _ (f (N.view.emb x)) = _root_.cast _ (f (N.view.emb (Shape.reshapeEquiv h.numel_eq ((Shape.reshapeEquiv h.numel_eq).symm x))))
      rw [Equiv.apply_symm_apply]
    · rw [← hf]; rfl
  refine BI.equiv_iff.mp ⟨?_, ?_⟩
  · show iprop(∃ f, ⌜(N.view.reshape s' h.numel_eq).read (Elt F) f = fun j => X (Shape.reshapeEquiv h.numel_eq j)⌝ ∗ ((N.view.reshape s' h.numel_eq).loc (c : Thread nD τ) ↦[N.view.set]{q} f))
      ⊢ (iprop(∃ f, ⌜N.view.read (Elt F) f = X⌝ ∗ (N.view.loc (c : Thread nD τ) ↦[N.view.set]{q} f)) : sProp 𝕄)
    iintro ⟨%f, %hf, H⟩
    iexists f
    isplitr; · ipureintro; exact (hiff f).mp hf
    iexact H
  · show iprop(∃ f, ⌜N.view.read (Elt F) f = X⌝ ∗ (N.view.loc (c : Thread nD τ) ↦[N.view.set]{q} f))
      ⊢ (iprop(∃ f, ⌜(N.view.reshape s' h.numel_eq).read (Elt F) f = fun j => X (Shape.reshapeEquiv h.numel_eq j)⌝ ∗ ((N.view.reshape s' h.numel_eq).loc (c : Thread nD τ) ↦[N.view.set]{q} f)) : sProp 𝕄)
    iintro ⟨%f, %hf, H⟩
    iexists f
    isplitr; · ipureintro; exact (hiff f).mpr hf
    iexact H

end Cert.Exchange

end
-- ==== Proof.Tiles.lean ====
/-
# Pieces between the steps

What a device does to the pieces it holds between two transfers: a chunk as fetched read as one slot of its buffer, a tile
made ready to leave, a tile as it arrived, a finished block lent to two transfers at once and put together again, the rows
of a partial product a load reads.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

omit [FloatOps F] in
/-- What is owned is held. -/
theorem held_of (c : Dev nD) {cs : CoreSpace} {s : Shape} {e : EltTy} (N : Memref sig .tc cs s e) (X : s.Idx → Elt F e) :
    owns (c : Thread nD τ) N fullShare X ⊢ (held c N : sProp 𝕄) := by
  unfold held
  iintro H
  iexists X; iexact H

/-- A chunk as fetched, in its slot. -/
theorem chunk_got (c : Dev nD) (j : Fin 2) (k : Fin 4) :
    owns (c : Thread nD τ) (wvQ j) fullShare (chunkB m c k) ⊢ (owns (c : Thread nD τ) (wvS j) fullShare (chunkF m c k) : sProp 𝕄) := by
  rw [← owns_squeeze c (wvS j) squeezes_S1x256x4096_S256x4096 fullShare (chunkF m c k)]
  refine Entails.of_eq (congrArg _ (funext fun x => ?_))
  unfold chunkF
  rw [Equiv.symm_apply_apply]

/-- A slot read is free for the next fetch. -/
theorem chunk_free (c : Dev nD) (j : Fin 2) (X : S1x256x4096.Idx → Elt F .f32) :
    owns (c : Thread nD τ) (wvS j) fullShare X ⊢ (held c (wvQ j) : sProp 𝕄) := by
  rw [← owns_squeeze c (wvS j) squeezes_S1x256x4096_S256x4096 fullShare X]
  exact held_of c _ _

/-- A tile stored is what the first leg of its chunk carries. -/
theorem tile_put (c : Dev nD) (k : Fin 4) :
    owns (c : Thread nD τ) (pnS k) fullShare (tile m c k) ⊢ (owns (c : Thread nD τ) (srcM c (.rs, k)) (shareT (.rs, k)) (val m c (.rs, k)) : sProp 𝕄) := by
  rw [← owns_squeeze c (pnS k) squeezes_S1x256x256_S256x256 fullShare (tile m c k)]
  exact Entails.refl _

/-- A tile as it arrived is the neighbour's, in its slot. -/
theorem tile_got (c : Dev nD) (k : Fin 4) :
    (pay m c (.rcv (.rs, k)) 0 false : sProp 𝕄) = owns (c : Thread nD τ) (rbS k) fullShare (tile m (xn c) k) :=
  owns_squeeze c (rbS k) squeezes_S1x256x256_S256x256 fullShare (tile m (xn c) k)

omit [FloatOps F] in
/-- A piece owned is two halves owned with the same values, … -/
theorem halves_out (c : Dev nD) {cs : CoreSpace} {s : Shape} {e : EltTy} (N : Memref sig .tc cs s e) (X : s.Idx → Elt F e) :
    owns (c : Thread nD τ) N fullShare X ⊢ (iprop(owns (c : Thread nD τ) N fullShare.left X ∗ owns (c : Thread nD τ) N fullShare.right X) : sProp 𝕄) := by
  unfold owns
  iintro ⟨%f, %hf, H⟩
  ihave H' := ((pointsTo_share (PosShare.mem_left_op_right fullShare)).1) $$ H
  icases H' with ⟨Hl, Hr⟩
  isplitl [Hl]
  · iexists f
    isplitr; · ipureintro; exact hf
    iexact Hl
  iexists f
  isplitr; · ipureintro; exact hf
  iexact Hr

omit [FloatOps F] in
/-- … and the other way. -/
theorem halves_in (c : Dev nD) {cs : CoreSpace} {s : Shape} {e : EltTy} (N : Memref sig .tc cs s e) (X : s.Idx → Elt F e) :
    iprop(owns (c : Thread nD τ) N fullShare.left X ∗ owns (c : Thread nD τ) N fullShare.right X) ⊢ (owns (c : Thread nD τ) N fullShare X : sProp 𝕄) := by
  unfold owns
  iintro ⟨⟨%f, %hf, Hl⟩, ⟨%g, %hg, Hr⟩⟩
  have hfg : ∀ x ∈ N.view.set, g x = f x := by
    intro x hx
    rw [View.set, Finset.mem_map] at hx
    obtain ⟨j, -, rfl⟩ := hx
    have h := congrFun (hg.trans hf.symm) j
    exact cast_inj _ |>.mp h
  ihave Hr' := (Entails.of_eq (pointsTo_congr (q := fullShare.right) hfg)) $$ Hr
  iexists f
  isplitr; · ipureintro; exact hf
  iapply ((pointsTo_share (PosShare.mem_left_op_right fullShare)).2)
  isplitl [Hl]; · iexact Hl
  iexact Hr'

/-- A block finished is lent to its transfers along `x` and along `y`. -/
theorem done_out (c : Dev nD) (k : Fin 4) :
    owns (c : Thread nD τ) (blk c k) fullShare (done m c k)
      ⊢ (iprop(owns (c : Thread nD τ) (srcM c (.ax, k)) (shareT (.ax, k)) (val m c (.ax, k))
          ∗ owns (c : Thread nD τ) (srcM c (.ay, k)) (shareT (.ay, k)) (val m c (.ay, k))) : sProp 𝕄) :=
  halves_out c (blk c k) (done m c k)

/-- A block arrived along `x` is what the last leg of its chunk carries. -/
theorem pass_on (c : Dev nD) (k : Fin 4) :
    pay m c (.rcv (.ax, k)) 0 false ⊢ (owns (c : Thread nD τ) (srcM c (.fw, k)) (shareT (.fw, k)) (val m c (.fw, k)) : sProp 𝕄) := Entails.refl _

/-- Where row `256h + i` of partial product `k` lies in the buffer of all four. -/
theorem po_emb (k : Fin 4) (h : Fin 2) {off : Fin 3 → Nat} (ho : off = ![k.val, 256 * h.val, 0]) (p : ∀ a, off a + S1x256x256.size a ≤ S4x512x256.size a)
    (j : S1x256x256.Idx) : (Rect.unit (s := S4x512x256) off S1x256x256.size p).emb j = (slotP k).emb ((rowP h).emb j) := by
  subst ho
  funext a
  apply Fin.ext
  rw [Rect.emb_apply, Rect.emb_apply, Rect.emb_apply]
  show (![k.val, 256 * h.val, 0] : Fin 3 → ℕ) a + 1 * (j a).val = (![k.val, 0, 0] : Fin 3 → ℕ) a + 1 * ((![0, 256 * h.val, 0] : Fin 3 → ℕ) a + 1 * (j a).val)
  match a with
  | 0 => show k.val + 1 * _ = k.val + 1 * (0 + 1 * _); omega
  | 1 => show 256 * h.val + 1 * _ = 0 + 1 * (256 * h.val + 1 * _); omega
  | 2 => show 0 + 1 * _ = 0 + 1 * (0 + 1 * _); omega

/-- The rows a device sends, and those it keeps, as the kernel computes them. -/
theorem oth_off (c : Dev nD) (k : Nat) : (![k, 256 - 256 * (c.val / 2), 0] : Fin 3 → Nat) = ![k, 256 * (oth c).val, 0] := by
  have h : 256 - 256 * (c.val / 2) = 256 * (oth c).val := by revert c; decide
  rw [h]
/-- Where the rows to send are read, for chunk 0; -/
theorem off2_oth (c : Dev nD) : k0_off2 c = ![(0 : Fin 4).val, 256 * (oth c).val, 0] := (k0_off2_eq c).trans (oth_off c 0)
/-- for chunk 1; -/
theorem off3_oth (c : Dev nD) : k0_off3 c = ![(1 : Fin 4).val, 256 * (oth c).val, 0] := (k0_off3_eq c).trans (oth_off c 1)
/-- for chunk 2; -/
theorem off7_oth (c : Dev nD) : k0_off7 c = ![(2 : Fin 4).val, 256 * (oth c).val, 0] := (k0_off7_eq c).trans (oth_off c 2)
/-- for chunk 3. -/
theorem off12_oth (c : Dev nD) : k0_off12 c = ![(3 : Fin 4).val, 256 * (oth c).val, 0] := (k0_off12_eq c).trans (oth_off c 3)
/-- Where the rows to keep are read, for chunk 0; -/
theorem off4_own (c : Dev nD) : k0_off4 c = ![(0 : Fin 4).val, 256 * (own c).val, 0] := k0_off4_eq c
/-- for chunk 1; -/
theorem off8_own (c : Dev nD) : k0_off8 c = ![(1 : Fin 4).val, 256 * (own c).val, 0] := k0_off8_eq c
/-- for chunk 2; -/
theorem off13_own (c : Dev nD) : k0_off13 c = ![(2 : Fin 4).val, 256 * (own c).val, 0] := k0_off13_eq c
/-- for chunk 3. -/
theorem off17_own (c : Dev nD) : k0_off17 c = ![(3 : Fin 4).val, 256 * (own c).val, 0] := k0_off17_eq c

/-- A load of half `h` of a partial product held. -/
theorem wp_load_rows (c : Dev nD) (k : Fin 4) (h : Fin 2) {off : Fin 3 → Nat} (ho : off = ![k.val, 256 * h.val, 0]) {p : ∀ a, off a + S1x256x256.size a ≤ S4x512x256.size a}
    {hl : poM.view.LoadsAt (Rect.unit (s := S4x512x256) off S1x256x256.size p).toLoadRect} {α : Type} {Q : α → sProp 𝕄} {g : (S1x256x256.Idx → Elt F .f32) → PR F α} :
    owns (c : Thread nD τ) (poS k) fullShare (part m c k)
      ⊢ iprop((owns (c : Thread nD τ) (poS k) fullShare (part m c k) -∗ run c (g (partRows m c k h)) Q)
          -∗ run c (.op (.load poM (Rect.unit (s := S4x512x256) off S1x256x256.size p).toLoadRect hl) g) Q) :=
  wp_load_part c (M := poM) (r := Rect.unit (s := S4x512x256) off S1x256x256.size p) (r₀ := slotP k) (fun _ => rfl) (rowP h).emb (po_emb k h ho p) (X := part m c k)

/-- Where the finished block is stored, for chunk 0; -/
theorem blk5 (c : Dev nD) : oM.slice (Rect.unit (s := S1024x1024) (k0_off5 c) S256x256.size (k0_off5_inb c)) (fun _ => rfl) = blk c 0 := blk_of_off c 0 (k0_off5_eq c) _
/-- for chunk 1; -/
theorem blk9 (c : Dev nD) : oM.slice (Rect.unit (s := S1024x1024) (k0_off9 c) S256x256.size (k0_off9_inb c)) (fun _ => rfl) = blk c 1 := blk_of_off c 1 (k0_off9_eq c) _
/-- for chunk 2; -/
theorem blk14 (c : Dev nD) : oM.slice (Rect.unit (s := S1024x1024) (k0_off14 c) S256x256.size (k0_off14_inb c)) (fun _ => rfl) = blk c 2 := blk_of_off c 2 (k0_off14_eq c) _
/-- for chunk 3. -/
theorem blk18 (c : Dev nD) : oM.slice (Rect.unit (s := S1024x1024) (k0_off18 c) S256x256.size (k0_off18_inb c)) (fun _ => rfl) = blk c 3 := blk_of_off c 3 (k0_off18_eq c) _

/-! ## The computations -/

/-- A chunk narrowed: its slot is free again. -/
theorem wp_narrow (c : Dev nD) (j : Fin 2) (k : Fin 4) {hl : wvM.view.LoadsAt (slotW j).toLoadRect} {hl' : wbM.view.LoadsAt (slotW j).toLoadRect}
    {hx : (wbM.access (slotW j)).Stores Finset.univ} {hm} {α : Type} {Q : α → sProp 𝕄} {g : PUnit → PR F α} :
    iprop(owns (c : Thread nD τ) (wvQ j) fullShare (chunkB m c k) ∗ held c (wbS j))
      ⊢ iprop(((held c (wvQ j) ∗ owns (c : Thread nD τ) (wbS j) fullShare (chunkN m c k)) -∗ run c (g ⟨⟩) Q)
          -∗ run c (.op (.load wvM (slotW j).toLoadRect hl) fun v => .op (.load wbM (slotW j).toLoadRect hl') fun _ =>
            .op (.store wbM (slotW j) (k0_pay2 v) Finset.univ hx hm) g) Q) := by
  iintro ⟨Hv, Hb⟩ Hk
  ihave Hv' := (chunk_got m c j k) $$ Hv
  iapply (wp_load_piece c (wvS j) rfl) $$ Hv'
  iintro Hv
  iapply (wp_overwrite c (wbS j) rfl) $$ Hb
  iintro Hb
  iapply Hk
  isplitl [Hv]
  · iapply (chunk_free c j _); iexact Hv
  iexact Hb

/-- A partial product. -/
theorem wp_product (c : Dev nD) (j : Fin 2) (k : Fin 4) {p} {hl : dbM.view.LoadsAt (Rect.unit (s := S512x4096) ![0, 0] S512x4096.size p).toLoadRect}
    {hl' : wbM.view.LoadsAt (slotW j).toLoadRect} {hl'' : poM.view.LoadsAt (slotP k).toLoadRect}
    {hx : (poM.access (slotP k)).Stores Finset.univ} {hm} {α : Type} {Q : α → sProp 𝕄} {g : PUnit → PR F α} :
    iprop(owns (c : Thread nD τ) dbM fullShare (rowsN m c) ∗ owns (c : Thread nD τ) (wbS j) fullShare (chunkN m c k) ∗ held c (poS k))
      ⊢ iprop(((owns (c : Thread nD τ) dbM fullShare (rowsN m c) ∗ held c (wbS j) ∗ owns (c : Thread nD τ) (poS k) fullShare (part m c k)) -∗ run c (g ⟨⟩) Q)
          -∗ run c (.op (.load dbM (Rect.unit (s := S512x4096) ![0, 0] S512x4096.size p).toLoadRect hl) fun v => .op (.load wbM (slotW j).toLoadRect hl') fun w =>
            .op (.load poM (slotP k).toLoadRect hl'') fun _ => .op (.store poM (slotP k) (k0_pay3 v w) Finset.univ hx hm) g) Q) := by
  iintro ⟨Hd, Hb, Hp⟩ Hk
  iapply (wp_load_db c) $$ Hd
  iintro Hd
  iapply (wp_load_piece c (wbS j) rfl) $$ Hb
  iintro Hb
  iapply (wp_overwrite c (poS k) rfl) $$ Hp
  iintro Hp
  iapply Hk
  isplitl [Hd]; · iexact Hd
  isplitl [Hb]
  · iapply (held_of c (wbS j) _); iexact Hb
  iexact Hp

/-- A tile narrowed, ready to leave. -/
theorem wp_tile (c : Dev nD) (k : Fin 4) {off : Fin 3 → Nat} (ho : off = ![k.val, 256 * (oth c).val, 0]) {p : ∀ a, off a + S1x256x256.size a ≤ S4x512x256.size a}
    {hl : poM.view.LoadsAt (Rect.unit (s := S4x512x256) off S1x256x256.size p).toLoadRect} {hl' : pnM.view.LoadsAt (slotT k).toLoadRect}
    {hx : (pnM.access (slotT k)).Stores Finset.univ} {hm} {α : Type} {Q : α → sProp 𝕄} {g : PUnit → PR F α} :
    iprop(owns (c : Thread nD τ) (poS k) fullShare (part m c k) ∗ held c (pnS k))
      ⊢ iprop(((owns (c : Thread nD τ) (poS k) fullShare (part m c k) ∗ owns (c : Thread nD τ) (srcM c (.rs, k)) (shareT (.rs, k)) (val m c (.rs, k))) -∗ run c (g ⟨⟩) Q)
          -∗ run c (.op (.load poM (Rect.unit (s := S4x512x256) off S1x256x256.size p).toLoadRect hl) fun v => .op (.load pnM (slotT k).toLoadRect hl') fun _ =>
            .op (.store pnM (slotT k) (k0_pay4 v) Finset.univ hx hm) g) Q) := by
  iintro ⟨Hp, Ht⟩ Hk
  iapply (wp_load_rows m c k (oth c) ho) $$ Hp
  iintro Hp
  iapply (wp_overwrite c (pnS k) rfl) $$ Ht
  iintro Ht
  iapply Hk
  isplitl [Hp]; · iexact Hp
  iapply (tile_put m c k); iexact Ht

/-- A block stored, whatever its place held. -/
theorem wp_put_block (c : Dev nD) (k : Fin 4) {off' : Fin 2 → Nat} {p' : ∀ a, off' a + S256x256.size a ≤ S1024x1024.size a}
    (hb : oM.slice (Rect.unit (s := S1024x1024) off' S256x256.size p') (fun _ => rfl) = blk c k) {w : S256x256.Idx → Elt F .bf16}
    {hl'' : oM.view.LoadsAt (Rect.unit (s := S1024x1024) off' S256x256.size p').toLoadRect}
    {hx : (oM.access (Rect.unit (s := S1024x1024) off' S256x256.size p')).Stores Finset.univ} {hm} {α : Type} {Q : α → sProp 𝕄} {g : PUnit → PR F α} :
    held c (blk c k)
      ⊢ iprop((owns (c : Thread nD τ) (blk c k) fullShare w -∗ run c (g ⟨⟩) Q)
          -∗ run c (.op (.load oM (Rect.unit (s := S1024x1024) off' S256x256.size p').toLoadRect hl'') fun _ =>
            .op (.store oM (Rect.unit (s := S1024x1024) off' S256x256.size p') w Finset.univ hx hm) g) Q) := by
  iintro H Hk
  iapply (wp_overwrite c (M := oM) (r := Rect.unit (s := S1024x1024) off' S256x256.size p') (hr := fun _ => rfl) (blk c k) hb (w := w)) $$ H
  iexact Hk

/-- A partial product stored, whatever its place held. -/
theorem wp_put_part (c : Dev nD) (k : Fin 4) {w : S1x512x256.Idx → Elt F .f32} {hl'' : poM.view.LoadsAt (slotP k).toLoadRect}
    {hx : (poM.access (slotP k)).Stores Finset.univ} {hm} {α : Type} {Q : α → sProp 𝕄} {g : PUnit → PR F α} :
    held c (poS k)
      ⊢ iprop((owns (c : Thread nD τ) (poS k) fullShare w -∗ run c (g ⟨⟩) Q)
          -∗ run c (.op (.load poM (slotP k).toLoadRect hl'') fun _ => .op (.store poM (slotP k) w Finset.univ hx hm) g) Q) := by
  iintro H Hk
  iapply (wp_overwrite c (poS k) rfl) $$ H
  iexact Hk

/-- A block finished, out of the device's own rows and the tile that arrived, and lent to its two transfers. -/
theorem wp_finish (c : Dev nD) (k : Fin 4) {off : Fin 3 → Nat} (ho : off = ![k.val, 256 * (own c).val, 0]) {p : ∀ a, off a + S1x256x256.size a ≤ S4x512x256.size a}
    {off' : Fin 2 → Nat} {p' : ∀ a, off' a + S256x256.size a ≤ S1024x1024.size a}
    (hb : oM.slice (Rect.unit (s := S1024x1024) off' S256x256.size p') (fun _ => rfl) = blk c k)
    {hl : poM.view.LoadsAt (Rect.unit (s := S4x512x256) off S1x256x256.size p).toLoadRect} {hl' : rbM.view.LoadsAt (slotT k).toLoadRect}
    {hl'' : oM.view.LoadsAt (Rect.unit (s := S1024x1024) off' S256x256.size p').toLoadRect}
    {hx : (oM.access (Rect.unit (s := S1024x1024) off' S256x256.size p')).Stores Finset.univ} {hm} {α : Type} {Q : α → sProp 𝕄} {g : PUnit → PR F α} :
    iprop(owns (c : Thread nD τ) (poS k) fullShare (part m c k) ∗ pay m c (.rcv (.rs, k)) 0 false ∗ held c (blk c k))
      ⊢ iprop(((owns (c : Thread nD τ) (poS k) fullShare (part m c k) ∗ pay m c (.rcv (.rs, k)) 0 false
            ∗ owns (c : Thread nD τ) (srcM c (.ax, k)) (shareT (.ax, k)) (val m c (.ax, k))
            ∗ owns (c : Thread nD τ) (srcM c (.ay, k)) (shareT (.ay, k)) (val m c (.ay, k))) -∗ run c (g ⟨⟩) Q)
          -∗ run c (.op (.load poM (Rect.unit (s := S4x512x256) off S1x256x256.size p).toLoadRect hl) fun v => .op (.load rbM (slotT k).toLoadRect hl') fun w =>
            .op (.load oM (Rect.unit (s := S1024x1024) off' S256x256.size p').toLoadRect hl'') fun _ =>
            .op (.store oM (Rect.unit (s := S1024x1024) off' S256x256.size p') (k0_pay8 v w) Finset.univ hx hm) g) Q) := by
  rw [tile_got m c k]
  iintro ⟨Hp, Ht, Hb⟩ Hk
  iapply (wp_load_rows m c k (own c) ho) $$ Hp
  iintro Hp
  iapply (wp_load_piece c (rbS k) rfl) $$ Ht
  iintro Ht
  iapply (wp_put_block c k hb) $$ Hb
  iintro Hb
  iapply Hk
  isplitl [Hp]; · iexact Hp
  isplitl [Ht]; · iexact Ht
  iapply (done_out m c k); iexact Hb

/-! ## The state after so many transfers -/

/-- The transfers left to issue (or to wait for) after the first `n`; those issued, latest first; the arrivals among them
    that are put by; and the cells closed once the first `n` have arrived. -/
abbrev rest (n : ℕ) : List Xfer := order.drop n
@[inherit_doc rest] abbrev sent (n : ℕ) : List Xfer := (order.take n).reverse
@[inherit_doc rest] abbrev kept (n : ℕ) : List Xfer := ((order.take n).filter fun t => t.1 ≠ .ax).reverse
@[inherit_doc rest] abbrev closed (n : ℕ) : List Cell := ((order.take n).map Cell.rcv).reverse ++ [.dy, .bar]

/-- The state of the exchange with `n` transfers issued and `i` arrivals seen. -/
def Sx (c : Dev nD) (n i : ℕ) : sProp 𝕄 := St m c (rest n) (rest i) (sent n) (kept i) [] (closed i)

/-- A function of the body's arguments, at the arguments the body is called with. -/
def bodyArgs {β : Type 1} (p : ∀ (arg0 : Memref sig .tc .hbm S1024x4096 .f32) (harg0 : arg0.IsWhole) (arg1 : Memref sig .tc .hbm S1024x4096 .f32) (harg1 : arg1.IsWhole)
    (arg2 : Memref sig .tc .vmem S1024x1024 .bf16) (harg2 : arg2.IsWhole) (arg3 : Memref sig .tc .vmem S512x4096 .f32) (harg3 : arg3.IsWhole)
    (arg4 : Memref sig .tc .vmem S512x4096 .bf16) (harg4 : arg4.IsWhole) (arg5 : Memref sig .tc .vmem S2x256x4096 .f32) (harg5 : arg5.IsWhole)
    (arg6 : Memref sig .tc .vmem S2x256x4096 .bf16) (harg6 : arg6.IsWhole) (arg7 : Memref sig .tc .vmem S4x256x256 .bf16) (harg7 : arg7.IsWhole)
    (arg8 : Memref sig .tc .vmem S4x512x256 .f32) (harg8 : arg8.IsWhole) (arg9 : Memref sig .tc .vmem S4x256x256 .bf16) (harg9 : arg9.IsWhole)
    (arg10 : DmaSems sig S_) (arg11 : DmaSems sig S2) (arg12 arg13 arg14 arg15 arg16 arg17 arg18 arg19 : DmaSems sig S4), β) : β :=
  p aM (Memref.isWhole_whole _) bM (Memref.isWhole_whole _) oM (Memref.isWhole_whole _) dvM (Memref.isWhole_whole _) dbM (Memref.isWhole_whole _)
    wvM (Memref.isWhole_whole _) wbM (Memref.isWhole_whole _) pnM (Memref.isWhole_whole _) poM (Memref.isWhole_whole _) rbM (Memref.isWhole_whole _)
    cc0_scratch7 cc0_scratch8 cc0_scratch9 cc0_scratch10 cc0_scratch11 cc0_scratch12 cc0_scratch13 cc0_scratch14 cc0_scratch15 cc0_scratch16

end Cert.Exchange

end
-- ==== Proof.Front.lean ====
/-
# The body, first stretch: fetches, barrier, the first two tiles sent

Each theorem is one stretch of the kernel's body on device `c`: what it needs of what the device holds, and what it leaves.
-/
module

public import proofs.«01_k».proof.Proof.Tiles

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The three fetches start, and the neighbour along `x` is told. -/
theorem part1 (c : Dev nD) {Q : _ → sProp 𝕄} :
    iprop(env m K ∗ owing c (owed₀ c) ∗ dutyTok ER (gcell (xn c) .bar) 0 true ∗ lands (xn c) (along true)
        ∗ dIdle m c ∗ held c dvM ∗ wIdle m c 0 0 ∗ held c (wvQ 0) ∗ wIdle m c 1 0 ∗ held c (wvQ 1))
      ⊢ iprop((∀ v2 v5 v6 v7 v26, (owing c (owedL c order + tallyAt (gcell (yn c) .bar) () 1) ∗ dBusy c ∗ wBusy c 0 0 ∗ wBusy c 1 0)
            -∗ Q ⟨c, v2, v5, v6, v7, SemArray.scalar (sig.barrier 0 rfl), v26, 1#32⟩)
          -∗ run c (bodyArgs (k0_part1 (F := F))) Q) := by
  unfold bodyArgs
  simp only [k0_part1_eq_skeleton]
  unfold k0_part1_skel
  simp only [semSignalWord, semWaitWord, Prog.lift, Prog.bind_op, Prog.bind_ret, Prog.pure_eq_ret, wp_deviceId]
  iintro ⟨#HE, HO, Ht, Hl, Hd, Hdv, Hw0, Hv0, Hw1, Hv1⟩ Hk
  iapply (wp_fetch_d m K c rfl) $$ [Hd Hdv]
  · isplitr; · iexact HE
    isplitl [Hd]; · iexact Hd
    iexact Hdv
  iintro Hd
  iapply (wp_fetch_w m K c 0 0 (by decide) rfl rfl rfl) $$ [Hw0 Hv0]
  · isplitr; · iexact HE
    isplitl [Hw0]; · iexact Hw0
    iexact Hv0
  iintro Hw0
  iapply (wp_fetch_w m K c 1 0 (by decide) rfl rfl rfl) $$ [Hw1 Hv1]
  · isplitr; · iexact HE
    isplitl [Hw1]; · iexact Hw1
    iexact Hv1
  iintro Hw1
  iapply (wp_signal_x m K c _ (dev1_eq c) rfl) $$ [HO Ht Hl]
  · isplitr; · iexact HE
    isplitl [HO]; · iexact HO
    isplitl [Ht]; · iexact Ht
    iexact Hl
  iintro HO
  simp only [wp_ret]
  imodintro
  iapply Hk
  isplitl [HO]; · iexact HO
  isplitl [Hd]; · iexact Hd
  isplitl [Hw0]; · iexact Hw0
  iexact Hw1

/-- After the barrier nothing is in flight and nothing has arrived. -/
theorem start_St (c : Dev nD) :
    iprop(owing c (owedL c order) ∗ outs c order ∗ lands c order ∗ ins c order ∗ semVal (gcell c .bar) 0)
      ⊢ (St m c order order [] [] [] [.bar] : sProp 𝕄) := by
  unfold St fls gots backs zeros
  iintro ⟨HO, Hou, Hl, Hin, Hz⟩
  isplitl [HO]; · iexact HO
  isplitl [Hou]; · iexact Hou
  isplitl [Hl]; · iexact Hl
  isplitl [Hin]; · iexact Hin
  rw [bigSepL_nil, bigSepL_nil, bigSepL_nil]
  isplitr; · iempintro
  isplitr; · iempintro
  isplitr; · iempintro
  iapply (cons_in _ Cell.bar [])
  isplitl [Hz]; · iexact Hz
  rw [bigSepL_nil]; iempintro

/-- The neighbour along `y` is told, both neighbours are waited for, and the rows and the first chunk are narrowed. -/
theorem part2 (c : Dev nD) (v2 v5 v7 v26 : BitVec 32) {Q : _ → sProp 𝕄} :
    iprop(env m K ∗ owing c (owedL c order + tallyAt (gcell (yn c) .bar) () 1) ∗ dutyTok ER (gcell (yn c) .bar) 0 false ∗ lands (yn c) (along false) ∗ atPos ER (gcell c .bar) 0 ∅ 0 ∗ cred (tallyAt (gcell c .bar) () 2) ∗ outs c order ∗ ins c order ∗ dBusy c ∗ held c (dbM) ∗ wBusy c 0 0 ∗ held c (wbS 0))
      ⊢ iprop((∀ v37, (Sx m c 0 0 ∗ held c (dvM) ∗ aPts m c ∗ owns (c : Thread nD τ) dbM fullShare (rowsN m c) ∗ wIdle m c 0 1 ∗ held c (wvQ 0) ∗ owns (c : Thread nD τ) (wbS 0) fullShare (chunkN m c 0))
            -∗ Q v37)
          -∗ run c (bodyArgs (k0_part2 (F := F)) c v2 v5 v7 (SemArray.scalar (sig.barrier 0 rfl)) v26 1#32) Q) := by
  simp only [bodyArgs, Sx, k0_part2_eq_skeleton]
  unfold k0_part2_skel
  simp only [semSignalWord, semWaitWord, Prog.lift, Prog.bind_op, Prog.bind_ret, Prog.pure_eq_ret]
  iintro ⟨#HE, HO, Ht, Hl, Hat, Hc, Hou, Hin, Hd, Hdb, Hw, Hb⟩ Hk
  iapply (wp_signal_y m K c _ (dev2_eq c) rfl) $$ [HO Ht Hl]
  · isplitr; · iexact HE
    isplitl [HO]; · iexact HO
    isplitl [Ht]; · iexact Ht
    iexact Hl
  iintro HO
  iapply (wp_barrier m K c rfl) $$ [HO Hat Hc]
  · isplitr; · iexact HE
    isplitl [HO]; · iexact HO
    isplitl [Hat]; · iexact Hat
    iexact Hc
  iintro ⟨HO, Hl, Hz⟩
  ihave HS := (start_St m c) $$ [HO Hou Hl Hin Hz]
  · isplitl [HO]; · iexact HO
    isplitl [Hou]; · iexact Hou
    isplitl [Hl]; · iexact Hl
    isplitl [Hin]; · iexact Hin
    iexact Hz
  iapply (wp_fetched_d m K c order order [] [] [] [.bar] (by decide) rfl) $$ [HS Hd]
  · isplitr; · iexact HE
    isplitl [HS]; · iexact HS
    iexact Hd
  iintro ⟨HS, Hdv, Ha⟩
  iapply (wp_load_dv c) $$ Hdv
  iintro Hdv
  ihave Hdb' := (show held c dbM ⊢ iprop(∃ X, owns (c : Thread nD τ) dbM fullShare X) from Entails.refl _) $$ Hdb
  icases Hdb' with ⟨%X, Hdb⟩
  iapply (wp_load_db c) $$ Hdb
  iintro Hdb
  iapply (wp_store_db c) $$ Hdb
  iintro Hdb
  iapply (wp_fetched_w m K c 0 0 (by decide) order order [] [] [] [.dy, .bar] (by decide) rfl (src := wvQ 0) (nB_dst 0)) $$ [HS Hw]
  · isplitr; · iexact HE
    isplitl [HS]; · iexact HS
    iexact Hw
  iintro ⟨HS, Hw, Hv⟩
  iapply (wp_narrow m c 0 0) $$ [Hv Hb]
  · isplitl [Hv]; · iexact Hv
    iexact Hb
  iintro ⟨Hv, Hb⟩
  ihave Hdv' := (held_of c dvM _) $$ Hdv
  simp only [wp_ret]
  imodintro
  iapply Hk
  isplitl [HS]; · iexact HS
  isplitl [Hdv']; · iexact Hdv'
  isplitl [Ha]; · iexact Ha
  isplitl [Hdb]; · iexact Hdb
  isplitl [Hw]; · iexact Hw
  isplitl [Hv]; · iexact Hv
  iexact Hb

/-- The third chunk starts; the first partial product, and its tile. -/
theorem part3 (c : Dev nD) (v2 v5 v6 : BitVec 32) {Q : _ → sProp 𝕄} :
    iprop(env m K ∗ wIdle m c 0 1 ∗ held c (wvQ 0) ∗ owns (c : Thread nD τ) dbM fullShare (rowsN m c) ∗ owns (c : Thread nD τ) (wbS 0) fullShare (chunkN m c 0) ∗ held c (poS 0) ∗ held c (pnS 0))
      ⊢ iprop(((wBusy c 0 1 ∗ owns (c : Thread nD τ) dbM fullShare (rowsN m c) ∗ held c (wbS 0) ∗ owns (c : Thread nD τ) (poS 0) fullShare (part m c 0) ∗ owns (c : Thread nD τ) (srcM c (.rs, 0)) (shareT (.rs, 0)) (val m c (.rs, 0)))
            -∗ Q ⟨⟩)
          -∗ run c (bodyArgs (k0_part3 (F := F)) c v2 v5 v6) Q) := by
  simp only [bodyArgs, Sx, k0_part3_eq_skeleton]
  unfold k0_part3_skel
  simp only [semSignalWord, semWaitWord, Prog.lift, Prog.bind_op, Prog.bind_ret, Prog.pure_eq_ret]
  iintro ⟨#HE, Hw, Hv, Hd, Hb, Hp, Hn⟩ Hk
  iapply (wp_fetch_w m K c 0 1 (by decide) rfl rfl rfl) $$ [Hw Hv]
  · isplitr; · iexact HE
    isplitl [Hw]; · iexact Hw
    iexact Hv
  iintro Hw
  iapply (wp_product m c 0 0) $$ [Hd Hb Hp]
  · isplitl [Hd]; · iexact Hd
    isplitl [Hb]; · iexact Hb
    iexact Hp
  iintro ⟨Hd, Hb, Hp⟩
  iapply (wp_tile m c 0 (off2_oth c)) $$ [Hp Hn]
  · isplitl [Hp]; · iexact Hp
    iexact Hn
  iintro ⟨Hp, Hn⟩
  simp only [wp_ret]
  imodintro
  iapply Hk
  isplitl [Hw]; · iexact Hw
  isplitl [Hd]; · iexact Hd
  isplitl [Hb]; · iexact Hb
  isplitl [Hp]; · iexact Hp
  iexact Hn

/-- The first tile leaves; the second chunk narrowed, the fourth started; the second partial product. -/
theorem part4 (c : Dev nD) {Q : _ → sProp 𝕄} :
    iprop(env m K ∗ Sx m c 0 0 ∗ owns (c : Thread nD τ) (srcM c (.rs, 0)) (shareT (.rs, 0)) (val m c (.rs, 0)) ∗ wBusy c 1 0 ∗ held c (wbS 1) ∗ owns (c : Thread nD τ) dbM fullShare (rowsN m c) ∗ held c (poS 1))
      ⊢ iprop(((Sx m c 1 0 ∗ wBusy c 1 1 ∗ owns (c : Thread nD τ) dbM fullShare (rowsN m c) ∗ held c (wbS 1) ∗ owns (c : Thread nD τ) (poS 1) fullShare (part m c 1))
            -∗ Q ⟨⟩)
          -∗ run c (bodyArgs (k0_part4 (F := F)) c) Q) := by
  simp only [bodyArgs, Sx, k0_part4_eq_skeleton]
  unfold k0_part4_skel
  simp only [semSignalWord, semWaitWord, Prog.lift, Prog.bind_op, Prog.bind_ret, Prog.pure_eq_ret]
  iintro ⟨#HE, HS, Hn, Hw, Hb, Hd, Hp⟩ Hk
  iapply (wp_issue m K c _ (.rs, 0) (rest 1) (rest 0) (sent 0) (kept 0) [] (closed 0) (dev3_eq c) rfl rfl rfl rfl) $$ [HS Hn]
  · isplitr; · iexact HE
    isplitl [HS]; · iexact HS
    iexact Hn
  iintro HS
  iapply (wp_fetched_w m K c 1 0 (by decide) (rest 1) (rest 0) (sent 1) (kept 0) [] (closed 0) (by decide) rfl (src := wvQ 0) (nB_dst 1)) $$ [HS Hw]
  · isplitr; · iexact HE
    isplitl [HS]; · iexact HS
    iexact Hw
  iintro ⟨HS, Hw, Hv⟩
  iapply (wp_narrow m c 1 1) $$ [Hv Hb]
  · isplitl [Hv]; · iexact Hv
    iexact Hb
  iintro ⟨Hv, Hb⟩
  iapply (wp_fetch_w m K c 1 1 (by decide) rfl rfl rfl) $$ [Hw Hv]
  · isplitr; · iexact HE
    isplitl [Hw]; · iexact Hw
    iexact Hv
  iintro Hw
  iapply (wp_product m c 1 1) $$ [Hd Hb Hp]
  · isplitl [Hd]; · iexact Hd
    isplitl [Hb]; · iexact Hb
    iexact Hp
  iintro ⟨Hd, Hb, Hp⟩
  simp only [wp_ret]
  imodintro
  iapply Hk
  isplitl [HS]; · iexact HS
  isplitl [Hw]; · iexact Hw
  isplitl [Hd]; · iexact Hd
  isplitl [Hb]; · iexact Hb
  iexact Hp

/-- The second tile leaves. -/
theorem part5 (c : Dev nD) (v2 v5 v6 : BitVec 32) {Q : _ → sProp 𝕄} :
    iprop(env m K ∗ Sx m c 1 0 ∗ owns (c : Thread nD τ) (poS 1) fullShare (part m c 1) ∗ held c (pnS 1))
      ⊢ iprop(((Sx m c 2 0 ∗ owns (c : Thread nD τ) (poS 1) fullShare (part m c 1))
            -∗ Q ⟨⟩)
          -∗ run c (bodyArgs (k0_part5 (F := F)) c v2 v5 v6) Q) := by
  simp only [bodyArgs, Sx, k0_part5_eq_skeleton]
  unfold k0_part5_skel
  simp only [semSignalWord, semWaitWord, Prog.lift, Prog.bind_op, Prog.bind_ret, Prog.pure_eq_ret]
  iintro ⟨#HE, HS, Hp, Hn⟩ Hk
  iapply (wp_tile m c 1 (off3_oth c)) $$ [Hp Hn]
  · isplitl [Hp]; · iexact Hp
    iexact Hn
  iintro ⟨Hp, Hn⟩
  iapply (wp_issue m K c _ (.rs, 1) (rest 2) (rest 0) (sent 1) (kept 0) [] (closed 0) (dev4_eq c) rfl rfl rfl rfl) $$ [HS Hn]
  · isplitr; · iexact HE
    isplitl [HS]; · iexact HS
    iexact Hn
  iintro HS
  simp only [wp_ret]
  imodintro
  iapply Hk
  isplitl [HS]; · iexact HS
  iexact Hp

end Cert.Exchange

end
-- ==== Proof.Middle.lean ====
/-
# The body, second stretch: from the first arrival to the fourth tile sent

Each theorem is one stretch of the kernel's body on device `c`: what it needs of what the device holds, and what it leaves.
-/
module

public import proofs.«01_k».proof.Proof.Tiles

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- A transfer's units are those of any block of its shape. -/
theorem nT_any (M : Memref sig .tc .vmem S256x256 .bf16) : M.view.dmaCredit = nT := rfl

/-- The first tile arrives; the first block is finished and leaves both ways. -/
theorem part6 (c : Dev nD) (v2 v5 v6 v7 v37 : BitVec 32) {Q : _ → sProp 𝕄} :
    iprop(env m K ∗ Sx m c 2 0 ∗ owns (c : Thread nD τ) (poS 0) fullShare (part m c 0) ∗ held c (blk c 0))
      ⊢ iprop(((Sx m c 4 1 ∗ held c (poS 0))
            -∗ Q ⟨⟩)
          -∗ run c (bodyArgs (k0_part6 (F := F)) c v2 v5 v6 v7 v37) Q) := by
  simp only [bodyArgs, Sx, k0_part6_eq_skeleton]
  unfold k0_part6_skel
  simp only [semSignalWord, semWaitWord, Prog.lift, Prog.bind_op, Prog.bind_ret, Prog.pure_eq_ret]
  iintro ⟨#HE, HS, Hp, Hb⟩ Hk
  iapply (wp_arrive m K c (.rs, 0) (rest 2) (rest 1) (sent 2) (kept 0) [] (closed 0) (by decide) rfl (nT_any _)) $$ [HS]
  · isplitr; · iexact HE
    iexact HS
  iintro ⟨HS, Hx⟩
  iapply (wp_finish m c 0 (off4_own c) (blk5 c)) $$ [Hp Hx Hb]
  · isplitl [Hp]; · iexact Hp
    isplitl [Hx]; · iexact Hx
    iexact Hb
  iintro ⟨Hp, Hx, Hax, Hay⟩
  ihave HS := (St_keep m c (.rs, 0) (rest 2) (rest 1) (sent 2) (kept 0) [] (closed 1)) $$ [HS Hx]
  · isplitl [HS]; · iexact HS
    iexact Hx
  iapply (wp_issue m K c _ (.ax, 0) (rest 3) (rest 1) (sent 2) (kept 1) [] (closed 1) (dev5_eq c) (blk6 c) (blk6 c) rfl rfl) $$ [HS Hax]
  · isplitr; · iexact HE
    isplitl [HS]; · iexact HS
    iexact Hax
  iintro HS
  iapply (wp_issue m K c _ (.ay, 0) (rest 4) (rest 1) (sent 3) (kept 1) [] (closed 1) (dev6_eq c) (blk6 c) (blk6 c) rfl rfl) $$ [HS Hay]
  · isplitr; · iexact HE
    isplitl [HS]; · iexact HS
    iexact Hay
  iintro HS
  ihave Hp := (held_of c (poS 0) _) $$ Hp
  simp only [wp_ret]
  imodintro
  iapply Hk
  isplitl [HS]; · iexact HS
  iexact Hp

/-- The third chunk narrowed, its partial product, its tile. -/
theorem part7 (c : Dev nD) (v2 : BitVec 32) {Q : _ → sProp 𝕄} :
    iprop(env m K ∗ Sx m c 4 1 ∗ wBusy c 0 1 ∗ held c (wbS 0) ∗ owns (c : Thread nD τ) dbM fullShare (rowsN m c) ∗ held c (poS 2) ∗ held c (pnS 2))
      ⊢ iprop(((Sx m c 4 1 ∗ wIdle m c 0 2 ∗ held c (wvQ 0) ∗ held c (wbS 0) ∗ owns (c : Thread nD τ) dbM fullShare (rowsN m c) ∗ owns (c : Thread nD τ) (poS 2) fullShare (part m c 2) ∗ owns (c : Thread nD τ) (srcM c (.rs, 2)) (shareT (.rs, 2)) (val m c (.rs, 2)))
            -∗ Q ⟨⟩)
          -∗ run c (bodyArgs (k0_part7 (F := F)) c v2) Q) := by
  simp only [bodyArgs, Sx, k0_part7_eq_skeleton]
  unfold k0_part7_skel
  simp only [semSignalWord, semWaitWord, Prog.lift, Prog.bind_op, Prog.bind_ret, Prog.pure_eq_ret]
  iintro ⟨#HE, HS, Hw, Hb, Hd, Hp, Hn⟩ Hk
  iapply (wp_fetched_w m K c 0 1 (by decide) (rest 4) (rest 1) (sent 4) (kept 1) [] (closed 1) (by decide) rfl (src := wvQ 0) (nB_dst 0)) $$ [HS Hw]
  · isplitr; · iexact HE
    isplitl [HS]; · iexact HS
    iexact Hw
  iintro ⟨HS, Hw, Hv⟩
  iapply (wp_narrow m c 0 2) $$ [Hv Hb]
  · isplitl [Hv]; · iexact Hv
    iexact Hb
  iintro ⟨Hv, Hb⟩
  iapply (wp_product m c 0 2) $$ [Hd Hb Hp]
  · isplitl [Hd]; · iexact Hd
    isplitl [Hb]; · iexact Hb
    iexact Hp
  iintro ⟨Hd, Hb, Hp⟩
  iapply (wp_tile m c 2 (off7_oth c)) $$ [Hp Hn]
  · isplitl [Hp]; · iexact Hp
    iexact Hn
  iintro ⟨Hp, Hn⟩
  simp only [wp_ret]
  imodintro
  iapply Hk
  isplitl [HS]; · iexact HS
  isplitl [Hw]; · iexact Hw
  isplitl [Hv]; · iexact Hv
  isplitl [Hb]; · iexact Hb
  isplitl [Hd]; · iexact Hd
  isplitl [Hp]; · iexact Hp
  iexact Hn

/-- The third tile leaves, the second arrives; the second block is computed. -/
theorem part8 (c : Dev nD) (v2 v5 v6 v37 : BitVec 32) {Q : _ → sProp 𝕄} :
    iprop(env m K ∗ Sx m c 4 1 ∗ owns (c : Thread nD τ) (srcM c (.rs, 2)) (shareT (.rs, 2)) (val m c (.rs, 2)) ∗ owns (c : Thread nD τ) (poS 1) fullShare (part m c 1))
      ⊢ iprop(((Sx m c 5 2 ∗ held c (poS 1))
            -∗ Q (done m c 1))
          -∗ run c (bodyArgs (k0_part8 (F := F)) c v2 v5 v6 v37) Q) := by
  simp only [bodyArgs, Sx, k0_part8_eq_skeleton]
  unfold k0_part8_skel
  simp only [semSignalWord, semWaitWord, Prog.lift, Prog.bind_op, Prog.bind_ret, Prog.pure_eq_ret]
  iintro ⟨#HE, HS, Hn, Hp⟩ Hk
  iapply (wp_issue m K c _ (.rs, 2) (rest 5) (rest 1) (sent 4) (kept 1) [] (closed 1) (dev7_eq c) rfl rfl rfl rfl) $$ [HS Hn]
  · isplitr; · iexact HE
    isplitl [HS]; · iexact HS
    iexact Hn
  iintro HS
  iapply (wp_arrive m K c (.rs, 1) (rest 5) (rest 2) (sent 5) (kept 1) [] (closed 1) (by decide) rfl (nT_any _)) $$ [HS]
  · isplitr; · iexact HE
    iexact HS
  iintro ⟨HS, Hx⟩
  iapply (wp_load_rows m c 1 (own c) (off8_own c)) $$ Hp
  iintro Hp
  ihave Hx := (Entails.of_eq (tile_got m c 1)) $$ Hx
  iapply (wp_load_piece c (rbS 1) rfl) $$ Hx
  iintro Hx
  ihave Hx := (Entails.of_eq (tile_got m c 1).symm) $$ Hx
  ihave HS := (St_keep m c (.rs, 1) (rest 5) (rest 2) (sent 5) (kept 1) [] (closed 2)) $$ [HS Hx]
  · isplitl [HS]; · iexact HS
    iexact Hx
  ihave Hp := (held_of c (poS 1) _) $$ Hp
  rw [show k0_pay12 (partRows m c 1 (own c)) (tile m (xn c) 1) = done m c 1 from rfl]
  simp only [wp_ret]
  imodintro
  iapply Hk
  isplitl [HS]; · iexact HS
  iexact Hp

/-- The second block is stored and leaves both ways; the neighbour's first block arrives. -/
theorem part9 (c : Dev nD) (v2 v5 v6 v7 : BitVec 32) {Q : _ → sProp 𝕄} :
    iprop(env m K ∗ Sx m c 5 2 ∗ held c (blk c 1))
      ⊢ iprop((∀ v260, (Sx m c 7 3 ∗ owns (c : Thread nD τ) (srcM c (.fw, 0)) (shareT (.fw, 0)) (val m c (.fw, 0)))
            -∗ Q v260)
          -∗ run c (bodyArgs (k0_part9 (F := F)) c v2 v5 v6 v7 (done m c 1)) Q) := by
  simp only [bodyArgs, Sx, k0_part9_eq_skeleton]
  unfold k0_part9_skel
  simp only [semSignalWord, semWaitWord, Prog.lift, Prog.bind_op, Prog.bind_ret, Prog.pure_eq_ret]
  iintro ⟨#HE, HS, Hb⟩ Hk
  iapply (wp_put_block c 1 (blk9 c)) $$ Hb
  iintro Hb
  ihave Hb := (done_out m c 1) $$ Hb
  icases Hb with ⟨Hax, Hay⟩
  iapply (wp_issue m K c _ (.ax, 1) (rest 6) (rest 2) (sent 5) (kept 2) [] (closed 2) (dev8_eq c) (blk10 c) (blk10 c) rfl rfl) $$ [HS Hax]
  · isplitr; · iexact HE
    isplitl [HS]; · iexact HS
    iexact Hax
  iintro HS
  iapply (wp_issue m K c _ (.ay, 1) (rest 7) (rest 2) (sent 6) (kept 2) [] (closed 2) (dev9_eq c) (blk10 c) (blk10 c) rfl rfl) $$ [HS Hay]
  · isplitr; · iexact HE
    isplitl [HS]; · iexact HS
    iexact Hay
  iintro HS
  iapply (wp_arrive m K c (.ax, 0) (rest 7) (rest 3) (sent 7) (kept 2) [] (closed 2) (by decide) rfl (nT_any _)) $$ [HS]
  · isplitr; · iexact HE
    iexact HS
  iintro ⟨HS, Hx⟩
  ihave Hx := (pass_on m c 0) $$ Hx
  simp only [wp_ret]
  imodintro
  iapply Hk
  isplitl [HS]; · iexact HS
  iexact Hx

/-- The neighbour's first block goes on along `y`, one arrives from there; the fourth chunk narrowed. -/
theorem part10 (c : Dev nD) (v2 v7 v260 : BitVec 32) {Q : _ → sProp 𝕄} :
    iprop(env m K ∗ Sx m c 7 3 ∗ owns (c : Thread nD τ) (srcM c (.fw, 0)) (shareT (.fw, 0)) (val m c (.fw, 0)) ∗ wBusy c 1 1 ∗ held c (wbS 1) ∗ owns (c : Thread nD τ) dbM fullShare (rowsN m c))
      ⊢ iprop(((Sx m c 8 4 ∗ wIdle m c 1 2 ∗ held c (wvQ 1) ∗ held c (wbS 1) ∗ held c (dbM))
            -∗ Q ⟨rowsN m c, chunkN m c 3⟩)
          -∗ run c (bodyArgs (k0_part10 (F := F)) c v2 v7 v260) Q) := by
  simp only [bodyArgs, Sx, k0_part10_eq_skeleton]
  unfold k0_part10_skel
  simp only [semSignalWord, semWaitWord, Prog.lift, Prog.bind_op, Prog.bind_ret, Prog.pure_eq_ret]
  iintro ⟨#HE, HS, Hf, Hw, Hb, Hd⟩ Hk
  iapply (wp_issue m K c _ (.fw, 0) (rest 8) (rest 3) (sent 7) (kept 3) [] (closed 3) (dev10_eq c) (blk11 c) (blk11 c) rfl rfl) $$ [HS Hf]
  · isplitr; · iexact HE
    isplitl [HS]; · iexact HS
    iexact Hf
  iintro HS
  iapply (wp_arrive m K c (.ay, 0) (rest 8) (rest 4) (sent 8) (kept 3) [] (closed 3) (by decide) rfl (nT_any _)) $$ [HS]
  · isplitr; · iexact HE
    iexact HS
  iintro ⟨HS, Hx⟩
  ihave HS := (St_keep m c (.ay, 0) (rest 8) (rest 4) (sent 8) (kept 3) [] (closed 4)) $$ [HS Hx]
  · isplitl [HS]; · iexact HS
    iexact Hx
  iapply (wp_fetched_w m K c 1 1 (by decide) (rest 8) (rest 4) (sent 8) (kept 4) [] (closed 4) (by decide) rfl (src := wvQ 0) (nB_dst 1)) $$ [HS Hw]
  · isplitr; · iexact HE
    isplitl [HS]; · iexact HS
    iexact Hw
  iintro ⟨HS, Hw, Hv⟩
  iapply (wp_narrow m c 1 3) $$ [Hv Hb]
  · isplitl [Hv]; · iexact Hv
    iexact Hb
  iintro ⟨Hv, Hb⟩
  iapply (wp_load_db c) $$ Hd
  iintro Hd
  iapply (wp_load_piece c (wbS 1) rfl) $$ Hb
  iintro Hb
  ihave Hd := (held_of c dbM _) $$ Hd
  ihave Hb := (held_of c (wbS 1) _) $$ Hb
  simp only [wp_ret]
  imodintro
  iapply Hk
  isplitl [HS]; · iexact HS
  isplitl [Hw]; · iexact Hw
  isplitl [Hv]; · iexact Hv
  isplitl [Hb]; · iexact Hb
  iexact Hd

/-- The fourth partial product; its tile leaves. -/
theorem part11 (c : Dev nD) (v2 v5 v6 : BitVec 32) {Q : _ → sProp 𝕄} :
    iprop(env m K ∗ Sx m c 8 4 ∗ held c (poS 3) ∗ held c (pnS 3))
      ⊢ iprop((∀ v317 c1, (Sx m c 9 4 ∗ owns (c : Thread nD τ) (poS 3) fullShare (part m c 3))
            -∗ Q ⟨v317, c1⟩)
          -∗ run c (bodyArgs (k0_part11 (F := F)) c v2 v5 v6 (rowsN m c) (chunkN m c 3)) Q) := by
  simp only [bodyArgs, Sx, k0_part11_eq_skeleton]
  unfold k0_part11_skel
  simp only [semSignalWord, semWaitWord, Prog.lift, Prog.bind_op, Prog.bind_ret, Prog.pure_eq_ret]
  iintro ⟨#HE, HS, Hp, Hn⟩ Hk
  rw [show k0_pay14 (rowsN m c) (chunkN m c 3) = part m c 3 from rfl]
  iapply (wp_put_part c 3) $$ Hp
  iintro Hp
  iapply (wp_tile m c 3 (off12_oth c)) $$ [Hp Hn]
  · isplitl [Hp]; · iexact Hp
    iexact Hn
  iintro ⟨Hp, Hn⟩
  iapply (wp_issue m K c _ (.rs, 3) (rest 9) (rest 4) (sent 8) (kept 4) [] (closed 4) (dev11_eq c) rfl rfl rfl rfl) $$ [HS Hn]
  · isplitr; · iexact HE
    isplitl [HS]; · iexact HS
    iexact Hn
  iintro HS
  simp only [wp_ret]
  imodintro
  iapply Hk
  isplitl [HS]; · iexact HS
  iexact Hp

end Cert.Exchange

end
-- ==== Proof.Late.lean ====
/-
# The body, third stretch: the last blocks leave and arrive

Each theorem is one stretch of the kernel's body on device `c`: what it needs of what the device holds, and what it leaves.
-/
module

public import proofs.«01_k».proof.Proof.Middle

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The third tile arrives; the third block is finished and leaves along `x`. -/
theorem part12 (c : Dev nD) (v2 v5 v6 v7 v37 v317 c1 : BitVec 32) {Q : _ → sProp 𝕄} :
    iprop(env m K ∗ Sx m c 9 4 ∗ owns (c : Thread nD τ) (poS 2) fullShare (part m c 2) ∗ held c (blk c 2))
      ⊢ iprop(((Sx m c 10 5 ∗ held c (poS 2) ∗ owns (c : Thread nD τ) (srcM c (.ay, 2)) (shareT (.ay, 2)) (val m c (.ay, 2)))
            -∗ Q ⟨⟩)
          -∗ run c (bodyArgs (k0_part12 (F := F)) c v2 v5 v6 v7 v37 v317 c1) Q) := by
  simp only [bodyArgs, Sx, k0_part12_eq_skeleton]
  unfold k0_part12_skel
  simp only [semSignalWord, semWaitWord, Prog.lift, Prog.bind_op, Prog.bind_ret, Prog.pure_eq_ret]
  iintro ⟨#HE, HS, Hp, Hb⟩ Hk
  iapply (wp_arrive m K c (.rs, 2) (rest 9) (rest 5) (sent 9) (kept 4) [] (closed 4) (by decide) rfl (nT_any _)) $$ [HS]
  · isplitr; · iexact HE
    iexact HS
  iintro ⟨HS, Hx⟩
  iapply (wp_finish m c 2 (off13_own c) (blk14 c)) $$ [Hp Hx Hb]
  · isplitl [Hp]; · iexact Hp
    isplitl [Hx]; · iexact Hx
    iexact Hb
  iintro ⟨Hp, Hx, Hax, Hay⟩
  ihave HS := (St_keep m c (.rs, 2) (rest 9) (rest 5) (sent 9) (kept 4) [] (closed 5)) $$ [HS Hx]
  · isplitl [HS]; · iexact HS
    iexact Hx
  iapply (wp_issue m K c _ (.ax, 2) (rest 10) (rest 5) (sent 9) (kept 5) [] (closed 5) (dev12_eq c) (blk15 c) (blk15 c) rfl rfl) $$ [HS Hax]
  · isplitr; · iexact HE
    isplitl [HS]; · iexact HS
    iexact Hax
  iintro HS
  ihave Hp := (held_of c (poS 2) _) $$ Hp
  simp only [wp_ret]
  imodintro
  iapply Hk
  isplitl [HS]; · iexact HS
  isplitl [Hp]; · iexact Hp
  iexact Hay

/-- It leaves along `y`; the neighbour's second block arrives and goes on; one arrives along `y`. -/
theorem part13 (c : Dev nD) (v2 v5 v6 v7 : BitVec 32) {Q : _ → sProp 𝕄} :
    iprop(env m K ∗ Sx m c 10 5 ∗ owns (c : Thread nD τ) (srcM c (.ay, 2)) (shareT (.ay, 2)) (val m c (.ay, 2)))
      ⊢ iprop(((Sx m c 12 7)
            -∗ Q ⟨⟩)
          -∗ run c (bodyArgs (k0_part13 (F := F)) c v2 v5 v6 v7) Q) := by
  simp only [bodyArgs, Sx, k0_part13_eq_skeleton]
  unfold k0_part13_skel
  simp only [semSignalWord, semWaitWord, Prog.lift, Prog.bind_op, Prog.bind_ret, Prog.pure_eq_ret]
  iintro ⟨#HE, HS, Hay⟩ Hk
  iapply (wp_issue m K c _ (.ay, 2) (rest 11) (rest 5) (sent 10) (kept 5) [] (closed 5) (dev13_eq c) (blk15 c) (blk15 c) rfl rfl) $$ [HS Hay]
  · isplitr; · iexact HE
    isplitl [HS]; · iexact HS
    iexact Hay
  iintro HS
  iapply (wp_arrive m K c (.ax, 1) (rest 11) (rest 6) (sent 11) (kept 5) [] (closed 5) (by decide) rfl (nT_any _)) $$ [HS]
  · isplitr; · iexact HE
    iexact HS
  iintro ⟨HS, Hx⟩
  ihave Hx := (pass_on m c 1) $$ Hx
  iapply (wp_issue m K c _ (.fw, 1) (rest 12) (rest 6) (sent 11) (kept 6) [] (closed 6) (dev14_eq c) (blk16 c) (blk16 c) rfl rfl) $$ [HS Hx]
  · isplitr; · iexact HE
    isplitl [HS]; · iexact HS
    iexact Hx
  iintro HS
  iapply (wp_arrive m K c (.ay, 1) (rest 12) (rest 7) (sent 12) (kept 6) [] (closed 6) (by decide) rfl (nT_any _)) $$ [HS]
  · isplitr; · iexact HE
    iexact HS
  iintro ⟨HS, Hx⟩
  ihave HS := (St_keep m c (.ay, 1) (rest 12) (rest 7) (sent 12) (kept 6) [] (closed 7)) $$ [HS Hx]
  · isplitl [HS]; · iexact HS
    iexact Hx
  simp only [wp_ret]
  imodintro
  iapply Hk
  iexact HS

/-- A block passed on arrives, and the fourth tile; the fourth block is finished. -/
theorem part14 (c : Dev nD) (v2 v5 v6 v7 v37 : BitVec 32) {Q : _ → sProp 𝕄} :
    iprop(env m K ∗ Sx m c 12 7 ∗ owns (c : Thread nD τ) (poS 3) fullShare (part m c 3) ∗ held c (blk c 3))
      ⊢ iprop((∀ v412 c0, (Sx m c 12 9 ∗ held c (poS 3) ∗ owns (c : Thread nD τ) (srcM c (.ax, 3)) (shareT (.ax, 3)) (val m c (.ax, 3)) ∗ owns (c : Thread nD τ) (srcM c (.ay, 3)) (shareT (.ay, 3)) (val m c (.ay, 3)))
            -∗ Q ⟨v412, c0⟩)
          -∗ run c (bodyArgs (k0_part14 (F := F)) c v2 v5 v6 v7 v37) Q) := by
  simp only [bodyArgs, Sx, k0_part14_eq_skeleton]
  unfold k0_part14_skel
  simp only [semSignalWord, semWaitWord, Prog.lift, Prog.bind_op, Prog.bind_ret, Prog.pure_eq_ret]
  iintro ⟨#HE, HS, Hp, Hb⟩ Hk
  iapply (wp_arrive m K c (.fw, 0) (rest 12) (rest 8) (sent 12) (kept 7) [] (closed 7) (by decide) rfl (nT_any _)) $$ [HS]
  · isplitr; · iexact HE
    iexact HS
  iintro ⟨HS, Hx⟩
  ihave HS := (St_keep m c (.fw, 0) (rest 12) (rest 8) (sent 12) (kept 7) [] (closed 8)) $$ [HS Hx]
  · isplitl [HS]; · iexact HS
    iexact Hx
  iapply (wp_arrive m K c (.rs, 3) (rest 12) (rest 9) (sent 12) (kept 8) [] (closed 8) (by decide) rfl (nT_any _)) $$ [HS]
  · isplitr; · iexact HE
    iexact HS
  iintro ⟨HS, Hx⟩
  iapply (wp_finish m c 3 (off17_own c) (blk18 c)) $$ [Hp Hx Hb]
  · isplitl [Hp]; · iexact Hp
    isplitl [Hx]; · iexact Hx
    iexact Hb
  iintro ⟨Hp, Hx, Hax, Hay⟩
  ihave HS := (St_keep m c (.rs, 3) (rest 12) (rest 9) (sent 12) (kept 8) [] (closed 9)) $$ [HS Hx]
  · isplitl [HS]; · iexact HS
    iexact Hx
  ihave Hp := (held_of c (poS 3) _) $$ Hp
  simp only [wp_ret]
  imodintro
  iapply Hk
  isplitl [HS]; · iexact HS
  isplitl [Hp]; · iexact Hp
  isplitl [Hax]; · iexact Hax
  iexact Hay

/-- It leaves both ways; the neighbour's third block arrives. -/
theorem part15 (c : Dev nD) (v2 v5 v6 v7 v412 c0 : BitVec 32) {Q : _ → sProp 𝕄} :
    iprop(env m K ∗ Sx m c 12 9 ∗ owns (c : Thread nD τ) (srcM c (.ax, 3)) (shareT (.ax, 3)) (val m c (.ax, 3)) ∗ owns (c : Thread nD τ) (srcM c (.ay, 3)) (shareT (.ay, 3)) (val m c (.ay, 3)))
      ⊢ iprop(((Sx m c 14 10 ∗ owns (c : Thread nD τ) (srcM c (.fw, 2)) (shareT (.fw, 2)) (val m c (.fw, 2)))
            -∗ Q ⟨⟩)
          -∗ run c (bodyArgs (k0_part15 (F := F)) c v2 v5 v6 v7 v412 c0) Q) := by
  simp only [bodyArgs, Sx, k0_part15_eq_skeleton]
  unfold k0_part15_skel
  simp only [semSignalWord, semWaitWord, Prog.lift, Prog.bind_op, Prog.bind_ret, Prog.pure_eq_ret]
  iintro ⟨#HE, HS, Hax, Hay⟩ Hk
  iapply (wp_issue m K c _ (.ax, 3) (rest 13) (rest 9) (sent 12) (kept 9) [] (closed 9) (dev15_eq c) (blk19 c) (blk19 c) rfl rfl) $$ [HS Hax]
  · isplitr; · iexact HE
    isplitl [HS]; · iexact HS
    iexact Hax
  iintro HS
  iapply (wp_issue m K c _ (.ay, 3) (rest 14) (rest 9) (sent 13) (kept 9) [] (closed 9) (dev16_eq c) (blk19 c) (blk19 c) rfl rfl) $$ [HS Hay]
  · isplitr; · iexact HE
    isplitl [HS]; · iexact HS
    iexact Hay
  iintro HS
  iapply (wp_arrive m K c (.ax, 2) (rest 14) (rest 10) (sent 14) (kept 9) [] (closed 9) (by decide) rfl (nT_any _)) $$ [HS]
  · isplitr; · iexact HE
    iexact HS
  iintro ⟨HS, Hx⟩
  ihave Hx := (pass_on m c 2) $$ Hx
  simp only [wp_ret]
  imodintro
  iapply Hk
  isplitl [HS]; · iexact HS
  iexact Hx

/-- That goes on; two arrive along `y` and the neighbour's fourth block. -/
theorem part16 (c : Dev nD) (v2 v5 v6 v7 : BitVec 32) {Q : _ → sProp 𝕄} :
    iprop(env m K ∗ Sx m c 14 10 ∗ owns (c : Thread nD τ) (srcM c (.fw, 2)) (shareT (.fw, 2)) (val m c (.fw, 2)))
      ⊢ iprop((∀ v475 c1, (Sx m c 15 13 ∗ owns (c : Thread nD τ) (srcM c (.fw, 3)) (shareT (.fw, 3)) (val m c (.fw, 3)))
            -∗ Q ⟨v475, c1⟩)
          -∗ run c (bodyArgs (k0_part16 (F := F)) c v2 v5 v6 v7) Q) := by
  simp only [bodyArgs, Sx, k0_part16_eq_skeleton]
  unfold k0_part16_skel
  simp only [semSignalWord, semWaitWord, Prog.lift, Prog.bind_op, Prog.bind_ret, Prog.pure_eq_ret]
  iintro ⟨#HE, HS, Hx⟩ Hk
  iapply (wp_issue m K c _ (.fw, 2) (rest 15) (rest 10) (sent 14) (kept 10) [] (closed 10) (dev17_eq c) (blk20 c) (blk20 c) rfl rfl) $$ [HS Hx]
  · isplitr; · iexact HE
    isplitl [HS]; · iexact HS
    iexact Hx
  iintro HS
  iapply (wp_arrive m K c (.ay, 2) (rest 15) (rest 11) (sent 15) (kept 10) [] (closed 10) (by decide) rfl (nT_any _)) $$ [HS]
  · isplitr; · iexact HE
    iexact HS
  iintro ⟨HS, Hx⟩
  ihave HS := (St_keep m c (.ay, 2) (rest 15) (rest 11) (sent 15) (kept 10) [] (closed 11)) $$ [HS Hx]
  · isplitl [HS]; · iexact HS
    iexact Hx
  iapply (wp_arrive m K c (.fw, 1) (rest 15) (rest 12) (sent 15) (kept 11) [] (closed 11) (by decide) rfl (nT_any _)) $$ [HS]
  · isplitr; · iexact HE
    iexact HS
  iintro ⟨HS, Hx⟩
  ihave HS := (St_keep m c (.fw, 1) (rest 15) (rest 12) (sent 15) (kept 11) [] (closed 12)) $$ [HS Hx]
  · isplitl [HS]; · iexact HS
    iexact Hx
  iapply (wp_arrive m K c (.ax, 3) (rest 15) (rest 13) (sent 15) (kept 12) [] (closed 12) (by decide) rfl (nT_any _)) $$ [HS]
  · isplitr; · iexact HE
    iexact HS
  iintro ⟨HS, Hx⟩
  ihave Hx := (pass_on m c 3) $$ Hx
  simp only [wp_ret]
  imodintro
  iapply Hk
  isplitl [HS]; · iexact HS
  iexact Hx

/-- That goes on, and the last three arrive along `y`. -/
theorem part17 (c : Dev nD) (v2 v7 v475 c1 : BitVec 32) {Q : _ → sProp 𝕄} :
    iprop(env m K ∗ Sx m c 15 13 ∗ owns (c : Thread nD τ) (srcM c (.fw, 3)) (shareT (.fw, 3)) (val m c (.fw, 3)))
      ⊢ iprop(((Sx m c 16 16)
            -∗ Q ⟨⟩)
          -∗ run c (bodyArgs (k0_part17 (F := F)) c v2 v7 v475 c1) Q) := by
  simp only [bodyArgs, Sx, k0_part17_eq_skeleton]
  unfold k0_part17_skel
  simp only [semSignalWord, semWaitWord, Prog.lift, Prog.bind_op, Prog.bind_ret, Prog.pure_eq_ret]
  iintro ⟨#HE, HS, Hx⟩ Hk
  iapply (wp_issue m K c _ (.fw, 3) (rest 16) (rest 13) (sent 15) (kept 13) [] (closed 13) (dev18_eq c) (blk21 c) (blk21 c) rfl rfl) $$ [HS Hx]
  · isplitr; · iexact HE
    isplitl [HS]; · iexact HS
    iexact Hx
  iintro HS
  iapply (wp_arrive m K c (.ay, 3) (rest 16) (rest 14) (sent 16) (kept 13) [] (closed 13) (by decide) rfl (nT_any _)) $$ [HS]
  · isplitr; · iexact HE
    iexact HS
  iintro ⟨HS, Hx⟩
  ihave HS := (St_keep m c (.ay, 3) (rest 16) (rest 14) (sent 16) (kept 13) [] (closed 14)) $$ [HS Hx]
  · isplitl [HS]; · iexact HS
    iexact Hx
  iapply (wp_arrive m K c (.fw, 2) (rest 16) (rest 15) (sent 16) (kept 14) [] (closed 14) (by decide) rfl (nT_any _)) $$ [HS]
  · isplitr; · iexact HE
    iexact HS
  iintro ⟨HS, Hx⟩
  ihave HS := (St_keep m c (.fw, 2) (rest 16) (rest 15) (sent 16) (kept 14) [] (closed 15)) $$ [HS Hx]
  · isplitl [HS]; · iexact HS
    iexact Hx
  iapply (wp_arrive m K c (.fw, 3) (rest 16) (rest 16) (sent 16) (kept 15) [] (closed 15) (by decide) rfl (nT_any _)) $$ [HS]
  · isplitr; · iexact HE
    iexact HS
  iintro ⟨HS, Hx⟩
  ihave HS := (St_keep m c (.fw, 3) (rest 16) (rest 16) (sent 16) (kept 15) [] (closed 16)) $$ [HS Hx]
  · isplitl [HS]; · iexact HS
    iexact Hx
  simp only [wp_ret]
  imodintro
  iapply Hk
  iexact HS

end Cert.Exchange

end
-- ==== Proof.Last.lean ====
/-
# The body, last stretch: every transfer has left

Once the last block has arrived the device waits for each of its transfers to have left, four per chunk.
-/
module

public import proofs.«01_k».proof.Proof.Late

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The transfers in the order a device waits for them to have left; those it has yet to wait for after the first `n`, those
    it has waited for, latest first, and the cells closed by then. -/
def waits : List Xfer :=
  [(.rs, 0), (.ax, 0), (.ay, 0), (.fw, 0), (.rs, 1), (.ax, 1), (.ay, 1), (.fw, 1), (.rs, 2), (.ax, 2), (.ay, 2), (.fw, 2), (.rs, 3), (.ax, 3), (.ay, 3), (.fw, 3)]
@[inherit_doc waits] abbrev due (n : ℕ) : List Xfer := waits.drop n
@[inherit_doc waits] abbrev gone (n : ℕ) : List Xfer := (waits.take n).reverse
@[inherit_doc waits] abbrev closing (n : ℕ) : List Cell := ((waits.take n).map Cell.snd).reverse ++ closed 16

/-- The state with every arrival seen and `n` transfers seen to have left. -/
def Sl (c : Dev nD) (n : ℕ) : sProp 𝕄 := St m c [] [] (due n) (kept 16) (gone n) (closing n)

/-- The transfers in flight, taken in the order of the waits. -/
theorem reorder (c : Dev nD) : Sx m c 16 16 ⊢ (Sl m c 0 : sProp 𝕄) := by
  unfold Sx Sl St
  iintro ⟨HO, Hou, Hl, Hin, Hf, Hg, Hb, Hz⟩
  isplitl [HO]; · iexact HO
  isplitl [Hou]; · iexact Hou
  isplitl [Hl]; · iexact Hl
  isplitl [Hin]; · iexact Hin
  isplitl [Hf]
  · unfold fls
    iapply (Entails.of_eq ((bigSep_eq_bigSepL_of_eq (S := (sent 16).toFinset) (sent 16) rfl (by decide) _).symm.trans (bigSep_eq_bigSepL_of_eq (due 0) (by decide) (by decide) _))); iexact Hf
  isplitl [Hg]; · iexact Hg
  isplitl [Hb]; · iexact Hb
  iexact Hz

/-- The transfers of the first chunk have left. -/
theorem part18 (c : Dev nD) {Q : _ → sProp 𝕄} :
    iprop(env m K ∗ Sl m c 0)
      ⊢ iprop(((Sl m c 4)
            -∗ Q ⟨⟩)
          -∗ run c (bodyArgs (k0_part18 (F := F)) c) Q) := by
  simp only [bodyArgs, Sl, k0_part18_eq_skeleton]
  unfold k0_part18_skel
  simp only [semSignalWord, semWaitWord, Prog.lift, Prog.bind_op, Prog.bind_ret, Prog.pure_eq_ret]
  iintro ⟨#HE, HS⟩ Hk
  iapply (wp_sent m K c (.rs, 0) [] (due 1) (kept 16) (gone 0) (closing 0) rfl (nT_any _)) $$ [HS]
  · isplitr; · iexact HE
    iexact HS
  iintro HS
  iapply (wp_sent m K c (.ax, 0) [] (due 2) (kept 16) (gone 1) (closing 1) rfl (nT_any _)) $$ [HS]
  · isplitr; · iexact HE
    iexact HS
  iintro HS
  iapply (wp_sent m K c (.ay, 0) [] (due 3) (kept 16) (gone 2) (closing 2) rfl (nT_any _)) $$ [HS]
  · isplitr; · iexact HE
    iexact HS
  iintro HS
  iapply (wp_sent m K c (.fw, 0) [] (due 4) (kept 16) (gone 3) (closing 3) rfl (nT_any _)) $$ [HS]
  · isplitr; · iexact HE
    iexact HS
  iintro HS
  simp only [wp_ret]
  imodintro
  iapply Hk
  iexact HS

/-- those of the second, and two of the third. -/
theorem part19 (c : Dev nD) {Q : _ → sProp 𝕄} :
    iprop(env m K ∗ Sl m c 4)
      ⊢ iprop(((Sl m c 10)
            -∗ Q ⟨⟩)
          -∗ run c (bodyArgs (k0_part19 (F := F)) c) Q) := by
  simp only [bodyArgs, Sl, k0_part19_eq_skeleton]
  unfold k0_part19_skel
  simp only [semSignalWord, semWaitWord, Prog.lift, Prog.bind_op, Prog.bind_ret, Prog.pure_eq_ret]
  iintro ⟨#HE, HS⟩ Hk
  iapply (wp_sent m K c (.rs, 1) [] (due 5) (kept 16) (gone 4) (closing 4) rfl (nT_any _)) $$ [HS]
  · isplitr; · iexact HE
    iexact HS
  iintro HS
  iapply (wp_sent m K c (.ax, 1) [] (due 6) (kept 16) (gone 5) (closing 5) rfl (nT_any _)) $$ [HS]
  · isplitr; · iexact HE
    iexact HS
  iintro HS
  iapply (wp_sent m K c (.ay, 1) [] (due 7) (kept 16) (gone 6) (closing 6) rfl (nT_any _)) $$ [HS]
  · isplitr; · iexact HE
    iexact HS
  iintro HS
  iapply (wp_sent m K c (.fw, 1) [] (due 8) (kept 16) (gone 7) (closing 7) rfl (nT_any _)) $$ [HS]
  · isplitr; · iexact HE
    iexact HS
  iintro HS
  iapply (wp_sent m K c (.rs, 2) [] (due 9) (kept 16) (gone 8) (closing 8) rfl (nT_any _)) $$ [HS]
  · isplitr; · iexact HE
    iexact HS
  iintro HS
  iapply (wp_sent m K c (.ax, 2) [] (due 10) (kept 16) (gone 9) (closing 9) rfl (nT_any _)) $$ [HS]
  · isplitr; · iexact HE
    iexact HS
  iintro HS
  simp only [wp_ret]
  imodintro
  iapply Hk
  iexact HS

/-- the others but one. -/
theorem part20 (c : Dev nD) {Q : _ → sProp 𝕄} :
    iprop(env m K ∗ Sl m c 10)
      ⊢ iprop(((Sl m c 15)
            -∗ Q ⟨⟩)
          -∗ run c (bodyArgs (k0_part20 (F := F)) c) Q) := by
  simp only [bodyArgs, Sl, k0_part20_eq_skeleton]
  unfold k0_part20_skel
  simp only [semSignalWord, semWaitWord, Prog.lift, Prog.bind_op, Prog.bind_ret, Prog.pure_eq_ret]
  iintro ⟨#HE, HS⟩ Hk
  iapply (wp_sent m K c (.ay, 2) [] (due 11) (kept 16) (gone 10) (closing 10) rfl (nT_any _)) $$ [HS]
  · isplitr; · iexact HE
    iexact HS
  iintro HS
  iapply (wp_sent m K c (.fw, 2) [] (due 12) (kept 16) (gone 11) (closing 11) rfl (nT_any _)) $$ [HS]
  · isplitr; · iexact HE
    iexact HS
  iintro HS
  iapply (wp_sent m K c (.rs, 3) [] (due 13) (kept 16) (gone 12) (closing 12) rfl (nT_any _)) $$ [HS]
  · isplitr; · iexact HE
    iexact HS
  iintro HS
  iapply (wp_sent m K c (.ax, 3) [] (due 14) (kept 16) (gone 13) (closing 13) rfl (nT_any _)) $$ [HS]
  · isplitr; · iexact HE
    iexact HS
  iintro HS
  iapply (wp_sent m K c (.ay, 3) [] (due 15) (kept 16) (gone 14) (closing 14) rfl (nT_any _)) $$ [HS]
  · isplitr; · iexact HE
    iexact HS
  iintro HS
  simp only [wp_ret]
  imodintro
  iapply Hk
  iexact HS

end Cert.Exchange

end
-- ==== Proof.Whole.lean ====
/-
# The body as a whole

The stretches of the body put one after another: what a device needs to run the body, and what it holds at the end.
-/
module

public import proofs.«01_k».proof.Proof.Front
public import proofs.«01_k».proof.Proof.Last

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- One program after another. -/
theorem run_bind (c : Dev nD) {α β : Type} (p : PR F α) (k : α → PR F β) (Q : β → sProp 𝕄) : run c (p >>= k) Q = run c p fun a => run c (k a) Q := wp_bind _ _ _ _ _ _

/-- The body, from the pieces of the device's buffers and its part of the protocol to all of them given back. -/
theorem body_pieces (c : Dev nD) {Q : PUnit → sProp 𝕄} :
    iprop(env m K ∗ owing c (owed₀ c) ∗ dutyTok ER (gcell (xn c) .bar) 0 true ∗ lands (xn c) (along true) ∗ dutyTok ER (gcell (yn c) .bar) 0 false ∗ lands (yn c) (along false)
        ∗ atPos ER (gcell c .bar) 0 ∅ 0 ∗ cred (tallyAt (gcell c .bar) () 2) ∗ outs c order ∗ ins c order ∗ dIdle m c ∗ held c dvM ∗ held c dbM
        ∗ wIdle m c 0 0 ∗ wIdle m c 1 0 ∗ held c (wvQ 0) ∗ held c (wvQ 1) ∗ held c (wbS 0) ∗ held c (wbS 1)
        ∗ held c (poS 0) ∗ held c (poS 1) ∗ held c (poS 2) ∗ held c (poS 3) ∗ held c (pnS 0) ∗ held c (pnS 1) ∗ held c (pnS 2) ∗ held c (pnS 3)
        ∗ held c (blk c 0) ∗ held c (blk c 1) ∗ held c (blk c 2) ∗ held c (blk c 3))
      ⊢ iprop(((Sl m c 16 ∗ held c dvM ∗ aPts m c ∗ held c dbM ∗ (semVal (gcell c (.w 0)) 0 ∗ bPts m c (shareW 0)) ∗ (semVal (gcell c (.w 1)) 0 ∗ bPts m c (shareW 1))
            ∗ held c (wvQ 0) ∗ held c (wvQ 1) ∗ held c (wbS 0) ∗ held c (wbS 1) ∗ held c (poS 0) ∗ held c (poS 1) ∗ held c (poS 2) ∗ held c (poS 3)) -∗ Q ⟨⟩)
          -∗ run c (bodyArgs (cc0_body (F := F))) Q) := by
  rw [cc0_body_eq_skeleton]
  unfold bodyArgs cc0_body_skel
  iintro ⟨#HE, HO, Htx, Hlx, Hty, Hly, Hbar, Hcb, Hou, Hin, Hd, Hdv, Hdb, Hw0, Hw1, Hv0, Hv1, Hb0, Hb1, Hp0, Hp1, Hp2, Hp3, Hn0, Hn1, Hn2, Hn3, Ho0, Ho1, Ho2, Ho3⟩ Hk
  rw [run_bind]
  iapply (part1 m K c) $$ [HO Htx Hlx Hd Hdv Hw0 Hv0 Hw1 Hv1]
  · isplitr; · iexact HE
    isplitl [HO]; · iexact HO
    isplitl [Htx]; · iexact Htx
    isplitl [Hlx]; · iexact Hlx
    isplitl [Hd]; · iexact Hd
    isplitl [Hdv]; · iexact Hdv
    isplitl [Hw0]; · iexact Hw0
    isplitl [Hv0]; · iexact Hv0
    isplitl [Hw1]; · iexact Hw1
    iexact Hv1
  iintro %v2 %v5 %v6 %v7 %v26 ⟨HO, Hd, Hw0, Hw1⟩
  dsimp only
  rw [run_bind]
  iapply (part2 m K c v2 v5 v7 v26) $$ [HO Hty Hly Hbar Hcb Hou Hin Hd Hdb Hw0 Hb0]
  · isplitr; · iexact HE
    isplitl [HO]; · iexact HO
    isplitl [Hty]; · iexact Hty
    isplitl [Hly]; · iexact Hly
    isplitl [Hbar]; · iexact Hbar
    isplitl [Hcb]; · iexact Hcb
    isplitl [Hou]; · iexact Hou
    isplitl [Hin]; · iexact Hin
    isplitl [Hd]; · iexact Hd
    isplitl [Hdb]; · iexact Hdb
    isplitl [Hw0]; · iexact Hw0
    iexact Hb0
  iintro %v37 ⟨HS, Hdv, Ha, Hdb, Hw0, Hv0, Hb0⟩
  rw [run_bind]
  iapply (part3 m K c v2 v5 v6) $$ [Hw0 Hv0 Hdb Hb0 Hp0 Hn0]
  · isplitr; · iexact HE
    isplitl [Hw0]; · iexact Hw0
    isplitl [Hv0]; · iexact Hv0
    isplitl [Hdb]; · iexact Hdb
    isplitl [Hb0]; · iexact Hb0
    isplitl [Hp0]; · iexact Hp0
    iexact Hn0
  iintro ⟨Hw0, Hdb, Hb0, Hp0, Hn0⟩
  rw [run_bind]
  iapply (part4 m K c) $$ [HS Hn0 Hw1 Hb1 Hdb Hp1]
  · isplitr; · iexact HE
    isplitl [HS]; · iexact HS
    isplitl [Hn0]; · iexact Hn0
    isplitl [Hw1]; · iexact Hw1
    isplitl [Hb1]; · iexact Hb1
    isplitl [Hdb]; · iexact Hdb
    iexact Hp1
  iintro ⟨HS, Hw1, Hdb, Hb1, Hp1⟩
  rw [run_bind]
  iapply (part5 m K c v2 v5 v6) $$ [HS Hp1 Hn1]
  · isplitr; · iexact HE
    isplitl [HS]; · iexact HS
    isplitl [Hp1]; · iexact Hp1
    iexact Hn1
  iintro ⟨HS, Hp1⟩
  rw [run_bind]
  iapply (part6 m K c v2 v5 v6 v7 v37) $$ [HS Hp0 Ho0]
  · isplitr; · iexact HE
    isplitl [HS]; · iexact HS
    isplitl [Hp0]; · iexact Hp0
    iexact Ho0
  iintro ⟨HS, Hp0⟩
  rw [run_bind]
  iapply (part7 m K c v2) $$ [HS Hw0 Hb0 Hdb Hp2 Hn2]
  · isplitr; · iexact HE
    isplitl [HS]; · iexact HS
    isplitl [Hw0]; · iexact Hw0
    isplitl [Hb0]; · iexact Hb0
    isplitl [Hdb]; · iexact Hdb
    isplitl [Hp2]; · iexact Hp2
    iexact Hn2
  iintro ⟨HS, Hw0, Hv0, Hb0, Hdb, Hp2, Hn2⟩
  rw [run_bind]
  iapply (part8 m K c v2 v5 v6 v37) $$ [HS Hn2 Hp1]
  · isplitr; · iexact HE
    isplitl [HS]; · iexact HS
    isplitl [Hn2]; · iexact Hn2
    iexact Hp1
  iintro ⟨HS, Hp1⟩
  rw [run_bind]
  iapply (part9 m K c v2 v5 v6 v7) $$ [HS Ho1]
  · isplitr; · iexact HE
    isplitl [HS]; · iexact HS
    iexact Ho1
  iintro %v260 ⟨HS, Hf⟩
  rw [run_bind]
  iapply (part10 m K c v2 v7 v260) $$ [HS Hf Hw1 Hb1 Hdb]
  · isplitr; · iexact HE
    isplitl [HS]; · iexact HS
    isplitl [Hf]; · iexact Hf
    isplitl [Hw1]; · iexact Hw1
    isplitl [Hb1]; · iexact Hb1
    iexact Hdb
  iintro ⟨HS, Hw1, Hv1, Hb1, Hdb⟩
  dsimp only
  rw [run_bind]
  iapply (part11 m K c v2 v5 v6) $$ [HS Hp3 Hn3]
  · isplitr; · iexact HE
    isplitl [HS]; · iexact HS
    isplitl [Hp3]; · iexact Hp3
    iexact Hn3
  iintro %v317 %c1 ⟨HS, Hp3⟩
  dsimp only
  rw [run_bind]
  iapply (part12 m K c v2 v5 v6 v7 v37 v317 c1) $$ [HS Hp2 Ho2]
  · isplitr; · iexact HE
    isplitl [HS]; · iexact HS
    isplitl [Hp2]; · iexact Hp2
    iexact Ho2
  iintro ⟨HS, Hp2, Hf⟩
  rw [run_bind]
  iapply (part13 m K c v2 v5 v6 v7) $$ [HS Hf]
  · isplitr; · iexact HE
    isplitl [HS]; · iexact HS
    iexact Hf
  iintro HS
  rw [run_bind]
  iapply (part14 m K c v2 v5 v6 v7 v37) $$ [HS Hp3 Ho3]
  · isplitr; · iexact HE
    isplitl [HS]; · iexact HS
    isplitl [Hp3]; · iexact Hp3
    iexact Ho3
  iintro %v412 %c0 ⟨HS, Hp3, Hf, Hg⟩
  dsimp only
  rw [run_bind]
  iapply (part15 m K c v2 v5 v6 v7 v412 c0) $$ [HS Hf Hg]
  · isplitr; · iexact HE
    isplitl [HS]; · iexact HS
    isplitl [Hf]; · iexact Hf
    iexact Hg
  iintro ⟨HS, Hf⟩
  rw [run_bind]
  iapply (part16 m K c v2 v5 v6 v7) $$ [HS Hf]
  · isplitr; · iexact HE
    isplitl [HS]; · iexact HS
    iexact Hf
  iintro %v475 %c2 ⟨HS, Hf⟩
  dsimp only
  rw [run_bind]
  iapply (part17 m K c v2 v7 v475 c2) $$ [HS Hf]
  · isplitr; · iexact HE
    isplitl [HS]; · iexact HS
    iexact Hf
  iintro HS
  ihave HS := (reorder m c) $$ HS
  rw [run_bind]
  iapply (part18 m K c) $$ [HS]
  · isplitr; · iexact HE
    iexact HS
  iintro HS
  rw [run_bind]
  iapply (part19 m K c) $$ [HS]
  · isplitr; · iexact HE
    iexact HS
  iintro HS
  rw [run_bind]
  iapply (part20 m K c) $$ [HS]
  · isplitr; · iexact HE
    iexact HS
  iintro HS
  simp only [Prog.lift, Prog.bind_op, Prog.bind_ret, Prog.pure_eq_ret]
  unfold Sl
  iapply (wp_sent m K c (.fw, 3) [] (due 16) (kept 16) (gone 15) (closing 15) rfl (nT_any _)) $$ [HS]
  · isplitr; · iexact HE
    iexact HS
  iintro HS
  simp only [wp_ret]
  imod (close_w m K c 0) $$ [Hw0] with Hw0
  · isplitr; · iexact HE
    iexact Hw0
  imod (close_w m K c 1) $$ [Hw1] with Hw1
  · isplitr; · iexact HE
    iexact Hw1
  imodintro
  iapply Hk
  isplitl [HS]; · iexact HS
  isplitl [Hdv]; · iexact Hdv
  isplitl [Ha]; · iexact Ha
  isplitl [Hdb]; · iexact Hdb
  isplitl [Hw0]; · iexact Hw0
  isplitl [Hw1]; · iexact Hw1
  isplitl [Hv0]; · iexact Hv0
  isplitl [Hv1]; · iexact Hv1
  isplitl [Hb0]; · iexact Hb0
  isplitl [Hb1]; · iexact Hb1
  isplitl [Hp0]; · iexact Hp0
  isplitl [Hp1]; · iexact Hp1
  isplitl [Hp2]; · iexact Hp2
  iexact Hp3

end Cert.Exchange

end
-- ==== Proof.Cover.lean ====
/-
# Buffers and the pieces they are cut into

Each buffer of the kernel is cut into equal pieces: slots, tiles, or the sixteen blocks of the result. Holding a buffer is
holding its pieces; and what the result holds once its sixteen blocks are the finished ones.
-/
module

public import proofs.«01_k».proof.Proof.Tiles

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Holding a buffer and holding its pieces -/

section Family

variable (c : Dev nD) {cs : CoreSpace} {s : Shape} {e : EltTy} (M : Memref sig .tc cs s e) {T : Type} [Fintype T] [DecidableEq T] (r : T → Rect s)
  (hr : ∀ t a, (r t).stride a = 1)

/-- Every place lies in exactly one piece. -/
def Cuts : Prop := ∀ x : s.Idx, ∃ t, x ∈ (r t).set ∧ ∀ t', x ∈ (r t').set → t' = t

variable {r}

/-- Two different pieces share no place. -/
theorem Cuts.disjoint (h : Cuts r) (t t' : T) (htt : t ≠ t') : Disjoint (r t).set (r t').set :=
  Finset.disjoint_left.mpr fun x hx hx' => by
    obtain ⟨u, -, hu⟩ := h x
    exact htt ((hu t hx).trans (hu t' hx').symm)

/-- The pieces together are the whole buffer. -/
theorem Cuts.cover (h : Cuts r) : (Finset.univ : Finset T).biUnion (fun t => (r t).set) = Finset.univ :=
  Finset.ext fun x => ⟨fun _ => Finset.mem_univ x, fun _ => by
    obtain ⟨t, ht, -⟩ := h x
    exact Finset.mem_biUnion.mpr ⟨t, Finset.mem_univ t, ht⟩⟩

/-- A buffer held is its pieces held, … -/
theorem held_cut (h : Cuts r) : held c M ⊢ (bigSep Finset.univ fun t => held c (M.slice (r t) (hr t)) : sProp 𝕄) := by
  unfold held
  iintro ⟨%X, H⟩
  ihave H := (owns_rects (c : Thread nD τ) M fullShare r hr h.disjoint h.cover X) $$ H
  iapply (show (bigSep Finset.univ fun t => owns (c : Thread nD τ) (M.slice (r t) (hr t)) fullShare fun j => X ((r t).emb j))
    ⊢ (bigSep Finset.univ fun t => iprop(∃ X, owns (c : Thread nD τ) (M.slice (r t) (hr t)) fullShare X) : sProp 𝕄) from
    bigSep_mono fun t _ => by
      show owns (c : Thread nD τ) (M.slice (r t) (hr t)) fullShare (fun j => X ((r t).emb j))
        ⊢ (iprop(∃ X, owns (c : Thread nD τ) (M.slice (r t) (hr t)) fullShare X) : sProp 𝕄)
      iintro H; iexists _; iexact H)
  iexact H

/-- The value on the whole that the pieces' values make. -/
theorem Cuts.glue (h : Cuts r) {Y : Type} (Xs : (t : T) → (r t).shape.Idx → Y) : ∃ X : s.Idx → Y, ∀ t j, X ((r t).emb j) = Xs t j := by
  classical
  have hx : ∀ x : s.Idx, ∃ p : (t : T) × (r t).shape.Idx, (r p.1).emb p.2 = x := fun x => by
    obtain ⟨t, ht, -⟩ := h x
    rw [← Rect.map_emb_univ, Finset.mem_map] at ht
    obtain ⟨j, -, hj⟩ := ht
    exact ⟨⟨t, j⟩, hj⟩
  choose p hp using hx
  refine ⟨fun x => Xs (p x).1 (p x).2, fun t j => ?_⟩
  have hmem (q : (t : T) × (r t).shape.Idx) : (r q.1).emb q.2 ∈ (r q.1).set := by
    rw [← Rect.map_emb_univ]; exact Finset.mem_map_of_mem _ (Finset.mem_univ _)
  obtain ⟨u, -, hu⟩ := h ((r t).emb j)
  have h1 : (p ((r t).emb j)).1 = t := (hu _ (by have := hmem (p ((r t).emb j)); rwa [hp] at this)).trans (hu _ (hmem ⟨t, j⟩)).symm
  have h2 : p ((r t).emb j) = ⟨t, j⟩ := by
    have h3 := hp ((r t).emb j)
    revert h1 h3
    rcases p ((r t).emb j) with ⟨a, b⟩
    intro h1 h3
    have h1' : a = t := h1
    subst h1'
    exact congrArg (Sigma.mk a) ((r a).emb.injective h3)
  show Xs (p ((r t).emb j)).1 (p ((r t).emb j)).2 = Xs t j
  rw [h2]

/-- … and the other way. -/
theorem held_join (h : Cuts r) : (bigSep Finset.univ fun t => held c (M.slice (r t) (hr t)) : sProp 𝕄) ⊢ held c M := by
  unfold held
  iintro H
  ihave H := (bigSep_exists_pi Finset.univ fun (t : T) (X : (r t).shape.Idx → Elt F e) => (owns (c : Thread nD τ) (M.slice (r t) (hr t)) fullShare X : sProp 𝕄)) $$ H
  icases H with ⟨%Xs, H⟩
  obtain ⟨X, hX⟩ := h.glue Xs
  iexists X
  iapply (owns_of_rects (c : Thread nD τ) M fullShare r hr h.disjoint h.cover X)
  rw [show (fun t => owns (c : Thread nD τ) (M.slice (r t) (hr t)) fullShare fun j => X ((r t).emb j))
    = (fun t => (owns (c : Thread nD τ) (M.slice (r t) (hr t)) fullShare (Xs t) : sProp 𝕄)) from
      funext fun t => congrArg _ (funext fun j => hX t j)]
  iexact H

end Family

/-- A piece with an axis of size one dropped, held. -/
theorem held_squeeze (c : Dev nD) {sp : Space} {s s' : Shape} {e : EltTy} (N : Memref sig .tc sp s e) (h : s.Squeezes s') :
    (held c (N.squeeze s' h) : sProp 𝕄) = held c N := by
  unfold held
  refine BI.equiv_iff.mp ⟨?_, ?_⟩
  · show iprop(∃ X, owns (c : Thread nD τ) (N.squeeze s' h) fullShare X) ⊢ (iprop(∃ X, owns (c : Thread nD τ) N fullShare X) : sProp 𝕄)
    iintro ⟨%X, H⟩
    iexists fun j => X ((Shape.reshapeEquiv h.numel_eq).symm j)
    rw [← owns_squeeze c N h fullShare fun j => X ((Shape.reshapeEquiv h.numel_eq).symm j),
      show (fun j => X ((Shape.reshapeEquiv h.numel_eq).symm (Shape.reshapeEquiv h.numel_eq j))) = X from funext fun j => by rw [Equiv.symm_apply_apply]]
    iexact H
  · show iprop(∃ X, owns (c : Thread nD τ) N fullShare X) ⊢ (iprop(∃ X, owns (c : Thread nD τ) (N.squeeze s' h) fullShare X) : sProp 𝕄)
    iintro ⟨%X, H⟩
    iexists fun j => X (Shape.reshapeEquiv h.numel_eq j)
    rw [owns_squeeze c N h fullShare X]
    iexact H

/-! ## How the buffers are cut -/

/-- A place lies in the slot that its first coordinate says. -/
theorem cuts_slotW : Cuts slotW := fun x => by
  refine ⟨⟨(x 0).val, (x 0).isLt⟩, Rect.mem_set_unit.mpr fun a => ?_, fun t ht => Fin.ext ?_⟩
  · match a with
    | 0 => exact ⟨Nat.le_refl _, Nat.lt_succ_self _⟩
    | 1 => exact ⟨Nat.zero_le _, by simpa using (x 1).isLt⟩
    | 2 => exact ⟨Nat.zero_le _, by simpa using (x 2).isLt⟩
  · have h := Rect.mem_set_unit.mp ht 0
    have h1 : t.val ≤ (x 0).val := h.1
    have h2 : (x 0).val < t.val + 1 := h.2
    exact (Nat.le_antisymm (Nat.le_of_lt_succ h2) h1).symm
@[inherit_doc cuts_slotW] theorem cuts_slotT : Cuts slotT := fun x => by
  refine ⟨⟨(x 0).val, (x 0).isLt⟩, Rect.mem_set_unit.mpr fun a => ?_, fun t ht => Fin.ext ?_⟩
  · match a with
    | 0 => exact ⟨Nat.le_refl _, Nat.lt_succ_self _⟩
    | 1 => exact ⟨Nat.zero_le _, by simpa using (x 1).isLt⟩
    | 2 => exact ⟨Nat.zero_le _, by simpa using (x 2).isLt⟩
  · have h := Rect.mem_set_unit.mp ht 0
    have h1 : t.val ≤ (x 0).val := h.1
    have h2 : (x 0).val < t.val + 1 := h.2
    exact (Nat.le_antisymm (Nat.le_of_lt_succ h2) h1).symm
@[inherit_doc cuts_slotW] theorem cuts_slotP : Cuts slotP := fun x => by
  refine ⟨⟨(x 0).val, (x 0).isLt⟩, Rect.mem_set_unit.mpr fun a => ?_, fun t ht => Fin.ext ?_⟩
  · match a with
    | 0 => exact ⟨Nat.le_refl _, Nat.lt_succ_self _⟩
    | 1 => exact ⟨Nat.zero_le _, by simpa using (x 1).isLt⟩
    | 2 => exact ⟨Nat.zero_le _, by simpa using (x 2).isLt⟩
  · have h := Rect.mem_set_unit.mp ht 0
    have h1 : t.val ≤ (x 0).val := h.1
    have h2 : (x 0).val < t.val + 1 := h.2
    exact (Nat.le_antisymm (Nat.le_of_lt_succ h2) h1).symm

/-- The device that finishes row `i` of the result: `y` is its half, `x` its quarter. -/
def rowDev (i : Fin 1024) : Dev nD := ⟨2 * (i.val / 256 % 2) + i.val / 256 / 2, by have := i.isLt; show _ < 4; omega⟩
/-- The chunk of column `j`. -/
def colChunk (j : Fin 1024) : Fin 4 := ⟨j.val / 256, by have := j.isLt; omega⟩

/-- A place of the result lies in the block that its row's device finishes for its column's chunk. -/
theorem cuts_blk : Cuts fun t : Dev nD × Fin 4 => blkR t.1 t.2 := fun x => by
  have h0 : (x 0).val < 1024 := (x 0).isLt
  have h1 : (x 1).val < 1024 := (x 1).isLt
  refine ⟨(rowDev (x 0), colChunk (x 1)), Rect.mem_set_unit.mpr fun a => ?_, fun t ht => ?_⟩
  · match a with
    | 0 =>
      show 512 * ((2 * ((x 0).val / 256 % 2) + (x 0).val / 256 / 2) % 2) + 256 * ((2 * ((x 0).val / 256 % 2) + (x 0).val / 256 / 2) / 2) ≤ (x 0).val
        ∧ (x 0).val < 512 * ((2 * ((x 0).val / 256 % 2) + (x 0).val / 256 / 2) % 2) + 256 * ((2 * ((x 0).val / 256 % 2) + (x 0).val / 256 / 2) / 2) + 256
      omega
    | 1 =>
      show 256 * ((x 1).val / 256) ≤ (x 1).val ∧ (x 1).val < 256 * ((x 1).val / 256) + 256
      omega
  · have ha : 512 * (t.1.val % 2) + 256 * (t.1.val / 2) ≤ (x 0).val ∧ (x 0).val < 512 * (t.1.val % 2) + 256 * (t.1.val / 2) + 256 := Rect.mem_set_unit.mp ht 0
    have hb : 256 * t.2.val ≤ (x 1).val ∧ (x 1).val < 256 * t.2.val + 256 := Rect.mem_set_unit.mp ht 1
    have ht4 : t.1.val < 4 := t.1.isLt
    refine Prod.ext (Fin.ext ?_) (Fin.ext ?_)
    · show t.1.val = 2 * ((x 0).val / 256 % 2) + (x 0).val / 256 / 2
      omega
    · show t.2.val = (x 1).val / 256
      omega

/-! ## The result -/

/-- What the result holds in the end, on every device: at each place what the device that finishes it computed there. -/
def outV : S1024x1024.Idx → Elt F .bf16 := fun x =>
  done m (rowDev (x 0)) (colChunk (x 1)) fun a => match a with
    | ⟨0, _⟩ => (⟨(x 0).val % 256, Nat.mod_lt _ (by decide)⟩ : Fin 256)
    | ⟨1, _⟩ => (⟨(x 1).val % 256, Nat.mod_lt _ (by decide)⟩ : Fin 256)

/-- In the block that device `d` finishes for chunk `k`, the result is that block. -/
theorem outV_blk (d : Dev nD) (k : Fin 4) : (fun j => outV m ((blkR d k).emb j)) = done m d k := by
  funext j
  have hd : d.val < 4 := d.isLt
  have h0 : (j 0).val < 256 := (j 0).isLt
  have h1 : (j 1).val < 256 := (j 1).isLt
  have e0 : ((blkR d k).emb j 0).val = 512 * (d.val % 2) + 256 * (d.val / 2) + 1 * (j 0).val := Rect.emb_apply _ j 0
  have e1 : ((blkR d k).emb j 1).val = 256 * k.val + 1 * (j 1).val := Rect.emb_apply _ j 1
  unfold outV
  have hr : rowDev ((blkR d k).emb j 0) = d := Fin.ext (by
    show 2 * (((blkR d k).emb j 0).val / 256 % 2) + ((blkR d k).emb j 0).val / 256 / 2 = d.val
    rw [e0]; omega)
  have hk : colChunk ((blkR d k).emb j 1) = k := Fin.ext (by
    show ((blkR d k).emb j 1).val / 256 = k.val
    rw [e1]; omega)
  rw [hr, hk]
  refine congrArg _ (funext fun a => ?_)
  match a with
  | 0 => exact Fin.ext (by show ((blkR d k).emb j 0).val % 256 = (j 0).val; rw [e0]; omega)
  | 1 => exact Fin.ext (by show ((blkR d k).emb j 1).val % 256 = (j 1).val; rw [e1]; omega)

/-- The sixteen blocks finished are the result. -/
theorem out_of_blocks (c : Dev nD) :
    (bigSep Finset.univ fun d : Dev nD => bigSep Finset.univ fun k : Fin 4 => owns (c : Thread nD τ) (blk d k) fullShare (done m d k))
      ⊢ (owns (c : Thread nD τ) oM fullShare (outV m) : sProp 𝕄) := by
  have h := owns_of_rects (Ix := Unit) (Name := ℕ) (U := UU) (Lvl := ℕ) (c : Thread nD τ) oM fullShare (fun t : Dev nD × Fin 4 => blkR t.1 t.2) (fun _ _ => rfl)
    cuts_blk.disjoint cuts_blk.cover (outV m)
  rw [bigSep_univ_prod] at h
  refine (Entails.of_eq (bigSep_congr fun d _ => bigSep_congr fun k _ => ?_)).trans h
  rw [← outV_blk m d k]

/-- The result's buffer held is its sixteen blocks held. -/
theorem blocks_of_out (c : Dev nD) :
    held c oM ⊢ (bigSep Finset.univ fun d : Dev nD => bigSep Finset.univ fun k : Fin 4 => held c (blk d k) : sProp 𝕄) := by
  have h := held_cut (F := F) c oM (r := fun t : Dev nD × Fin 4 => blkR t.1 t.2) (fun _ _ => rfl) cuts_blk
  rw [bigSep_univ_prod] at h
  exact h

end Cert.Exchange

end
-- ==== Proof.Ends.lean ====
/-
# The body between whole buffers

The body from the device's whole buffers and its share of the protocol: at the end the buffers are whole again, the cells are
at zero, and the result's buffer holds the finished blocks.
-/
module

public import proofs.«01_k».proof.Proof.Whole
public import proofs.«01_k».proof.Proof.Cover

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts from -/

/-- Its places at its cells and the rights to pay the duties it will pay. -/
def ghosts (c : Dev nD) : sProp 𝕄 :=
  iprop(outs c order ∗ (bigSepL order fun t => atPos ER (gcell c (.rcv t)) 0 ∅ 0) ∗ atPos ER (gcell c .bar) 0 ∅ 0
    ∗ (atPos ER (gcell c .dy) 0 ∅ 0 ∗ dutyTok ER (gcell c .dy) 0 false) ∗ (atPos ER (gcell c (.w 0)) 0 ∅ 0 ∗ toks c 0 0) ∗ (atPos ER (gcell c (.w 1)) 0 ∅ 0 ∗ toks c 1 0)
    ∗ dutyTok ER (gcell (xn c) .bar) 0 true ∗ dutyTok ER (gcell (yn c) .bar) 0 false)
/-- The units the others owe its cells. -/
def credits (c : Dev nD) : sProp 𝕄 := iprop(cred (tallyAt (gcell c .bar) () 2) ∗ bigSepL order fun t => cred (tallyAt (gcell c (.rcv t)) () nT))
/-- Its two arguments. -/
def argsP (c : Dev nD) : sProp 𝕄 := iprop(aPts m c ∗ bPts m c fullShare)
/-- Its buffers but the result's. -/
def bufs (c : Dev nD) : sProp 𝕄 := iprop(held c dvM ∗ held c dbM ∗ held c wvM ∗ held c wbM ∗ held c pnM ∗ held c poM ∗ held c rbM)

/-! ## Regrouping -/

/-- The four transfers of a leg. -/
def legL (l : Leg) : List Xfer := [(l, 0), (l, 1), (l, 2), (l, 3)]

omit [FloatOps F] in
/-- A product over the four transfers of one family. -/
theorem leg_eq (l : Leg) (Φ : Xfer → sProp 𝕄) : bigSepL (legL l) Φ = bigSep Finset.univ fun k : Fin 4 => Φ (l, k) :=
  (bigSep_univ_eq_bigSepL [0, 1, 2, 3] (by decide) (by decide) fun k : Fin 4 => Φ (l, k)).symm

omit [FloatOps F] in
/-- The pieces over the four chunks, one by one. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- The pieces over the two slots. -/
theorem two (Φ : Fin 2 → sProp 𝕄) : bigSep Finset.univ Φ = iprop(Φ 0 ∗ Φ 1) :=
  bigSep_univ_eq_bigSepL [0, 1] (by decide) (by decide) Φ
omit [FloatOps F] in
/-- The pieces over the devices, from a device's own and its neighbours'. -/
theorem around (c : Dev nD) (Φ : Dev nD → sProp 𝕄) : bigSep Finset.univ Φ = iprop(Φ c ∗ Φ (xn c) ∗ Φ (yn c) ∗ Φ (xn (yn c))) :=
  bigSep_eq_bigSepL_of_eq [c, xn c, yn c, xn (yn c)] (by revert c; decide) (by revert c; decide) Φ

omit [FloatOps F] in
/-- A product over two lists, one after the other. -/
theorem append_eq {I : Type} (l l' : List I) (Φ : I → sProp 𝕄) : bigSepL (l ++ l') Φ = iprop(bigSepL l Φ ∗ bigSepL l' Φ) := bigSepL_append l l' Φ

omit [FloatOps F] in
/-- A conjunction over all transfers of pairs, from one over the firsts and one over the seconds. -/
theorem order_sep (Φ Ψ : Xfer → sProp 𝕄) : iprop(bigSepL order Φ ∗ bigSepL order Ψ) ⊢ bigSepL order fun t => iprop(Φ t ∗ Ψ t) := by
  have h (Φ : Xfer → sProp 𝕄) : bigSepL order Φ = bigSep Finset.univ Φ := (bigSep_eq_bigSepL_of_eq order order_univ order_nodup Φ).symm
  rw [h, h, h, bigSep_sep']

/-- The landing places a device hands its neighbour along `x`, along `y`. -/
theorem lands_x (c : Dev nD) :
    lands (F := F) (xn c) (along true) = iprop((bigSep Finset.univ fun k : Fin 4 => held c (rbS k)) ∗ bigSep Finset.univ fun k : Fin 4 => held c (blk (xn c) k)) := by
  unfold lands
  rw [show along true = legL .rs ++ legL .ax from rfl, append_eq, leg_eq, leg_eq]
  have h1 : (fun k : Fin 4 => landing (F := F) (xn c) (.rs, k)) = fun k => held c (rbS k) := funext fun k => by
    show held (xn (xn c)) (rbQ k) = _
    rw [xn_xn]; exact held_squeeze c (rbS k) _
  have h2 : (fun k : Fin 4 => landing (F := F) (xn c) (.ax, k)) = fun k => held c (blk (xn c) k) := funext fun k => by
    show held (xn (xn c)) (blk (xn c) k) = _
    rw [xn_xn]
  rw [h1, h2]
@[inherit_doc lands_x] theorem lands_y (c : Dev nD) :
    lands (F := F) (yn c) (along false) = iprop((bigSep Finset.univ fun k : Fin 4 => held c (blk (yn c) k)) ∗ bigSep Finset.univ fun k : Fin 4 => held c (blk (xn (yn c)) k)) := by
  unfold lands
  rw [show along false = legL .ay ++ legL .fw from rfl, append_eq, leg_eq, leg_eq]
  have h1 : (fun k : Fin 4 => landing (F := F) (yn c) (.ay, k)) = fun k => held c (blk (yn c) k) := funext fun k => by
    show held (yn (yn c)) (blk (yn c) k) = _
    rw [yn_yn]
  have h2 : (fun k : Fin 4 => landing (F := F) (yn c) (.fw, k)) = fun k => held c (blk (xn (yn c)) k) := funext fun k => by
    show held (yn (yn c)) (blk (xn (yn c)) k) = _
    rw [yn_yn]
  rw [h1, h2]

/-- What arrived at a device: tiles, and the blocks of its neighbour along `y` and of that one's neighbour along `x`. -/
theorem gots_split (c : Dev nD) :
    gots m c (kept 16) ⊢ (iprop((bigSep Finset.univ fun k : Fin 4 => held c (rbS k))
      ∗ (bigSep Finset.univ fun k : Fin 4 => owns (c : Thread nD τ) (blk (yn c) k) fullShare (done m (yn c) k))
      ∗ bigSep Finset.univ fun k : Fin 4 => owns (c : Thread nD τ) (blk (xn (yn c)) k) fullShare (done m (xn (yn c)) k)) : sProp 𝕄) := by
  unfold gots
  rw [show bigSepL (kept 16) (fun t => pay (F := F) m c (.rcv t) 0 false) = bigSepL (legL .rs ++ (legL .ay ++ legL .fw)) (fun t => pay m c (.rcv t) 0 false) from
    (bigSep_eq_bigSepL_of_eq (S := (kept 16).toFinset) (kept 16) rfl (by decide) _).symm.trans (bigSep_eq_bigSepL_of_eq _ (by decide) (by decide) _),
    append_eq, append_eq, leg_eq, leg_eq, leg_eq]
  iintro ⟨H1, H2, H3⟩
  isplitl [H1]
  · iapply (show (bigSep Finset.univ fun k : Fin 4 => pay (F := F) m c (.rcv (.rs, k)) 0 false) ⊢ bigSep Finset.univ fun k : Fin 4 => held c (rbS k) from
      bigSep_mono fun k _ => by rw [← held_squeeze c (rbS k) squeezes_S1x256x256_S256x256]; exact held_of _ _ _)
    iexact H1
  isplitl [H2]
  · iapply (show (bigSep Finset.univ fun k : Fin 4 => pay (F := F) m c (.rcv (.ay, k)) 0 false)
      ⊢ bigSep Finset.univ fun k : Fin 4 => owns (c : Thread nD τ) (blk (yn c) k) fullShare (done m (yn c) k) from bigSep_mono fun k _ => Entails.refl _)
    iexact H2
  · iapply (show (bigSep Finset.univ fun k : Fin 4 => pay (F := F) m c (.rcv (.fw, k)) 0 false)
      ⊢ bigSep Finset.univ fun k : Fin 4 => owns (c : Thread nD τ) (blk (xn (yn c)) k) fullShare (done m (xn (yn c)) k) from bigSep_mono fun k _ => Entails.refl _)
    iexact H3

/-- What came back to a device: its tiles, its own blocks, and those of its neighbour along `x`. -/
theorem backs_split (c : Dev nD) :
    backs m c (gone 16) ⊢ (iprop((bigSep Finset.univ fun k : Fin 4 => held c (pnS k))
      ∗ (bigSep Finset.univ fun k : Fin 4 => owns (c : Thread nD τ) (blk c k) fullShare (done m c k))
      ∗ bigSep Finset.univ fun k : Fin 4 => owns (c : Thread nD τ) (blk (xn c) k) fullShare (done m (xn c) k)) : sProp 𝕄) := by
  unfold backs
  rw [show bigSepL (gone 16) (fun t => pay (F := F) m c (.snd t) 0 false) = bigSepL (legL .rs ++ (legL .ax ++ (legL .ay ++ legL .fw))) (fun t => pay m c (.snd t) 0 false) from
    (bigSep_eq_bigSepL_of_eq (S := (gone 16).toFinset) (gone 16) rfl (by decide) _).symm.trans (bigSep_eq_bigSepL_of_eq _ (by decide) (by decide) _),
    append_eq, append_eq, append_eq, leg_eq, leg_eq, leg_eq, leg_eq]
  iintro ⟨H1, H2, H3, H4⟩
  isplitl [H1]
  · iapply (show (bigSep Finset.univ fun k : Fin 4 => pay (F := F) m c (.snd (.rs, k)) 0 false) ⊢ bigSep Finset.univ fun k : Fin 4 => held c (pnS k) from
      bigSep_mono fun k _ => by rw [← held_squeeze c (pnS k) squeezes_S1x256x256_S256x256]; exact held_of _ _ _)
    iexact H1
  isplitl [H2 H3]
  · iapply (show iprop((bigSep Finset.univ fun k : Fin 4 => pay (F := F) m c (.snd (.ax, k)) 0 false) ∗ (bigSep Finset.univ fun k : Fin 4 => pay (F := F) m c (.snd (.ay, k)) 0 false))
      ⊢ bigSep Finset.univ fun k : Fin 4 => owns (c : Thread nD τ) (blk c k) fullShare (done m c k) from by
        rw [← bigSep_sep']; exact bigSep_mono fun k _ => halves_in c (blk c k) (done m c k))
    isplitl [H2]; · iexact H2
    iexact H3
  · iapply (show (bigSep Finset.univ fun k : Fin 4 => pay (F := F) m c (.snd (.fw, k)) 0 false)
      ⊢ bigSep Finset.univ fun k : Fin 4 => owns (c : Thread nD τ) (blk (xn c) k) fullShare (done m (xn c) k) from bigSep_mono fun k _ => Entails.refl _)
    iexact H4

/-- The second argument in halves, one for each slot. -/
theorem b_halves (c : Dev nD) : bPts m c fullShare ⊢ (iprop(bPts m c (shareW 0) ∗ bPts m c (shareW 1)) : sProp 𝕄) :=
  (pointsTo_share (PosShare.mem_left_op_right fullShare)).1
@[inherit_doc b_halves] theorem b_whole (c : Dev nD) : iprop(bPts m c (shareW 0) ∗ bPts m c (shareW 1)) ⊢ (bPts m c fullShare : sProp 𝕄) :=
  (pointsTo_share (PosShare.mem_left_op_right fullShare)).2

/-- The cells closed by the end are all of them. -/
theorem zeros_all (c : Dev nD) :
    iprop(zeros (F := F) c (closing 16) ∗ semVal (gcell c (.w 0)) 0 ∗ semVal (gcell c (.w 1)) 0) ⊢ zeros c cellList := by
  unfold zeros
  have h : bigSepL (closing 16 ++ [Cell.w 0, Cell.w 1]) (fun i => (semVal (gcell c i) 0 : sProp 𝕄)) = bigSepL cellList fun i => semVal (gcell c i) 0 :=
    (bigSep_eq_bigSepL_of_eq (S := (closing 16 ++ [Cell.w 0, Cell.w 1]).toFinset) _ rfl (by decide) _).symm.trans (bigSep_eq_bigSepL_of_eq _ (by decide) cellList_nodup _)
  rw [← h, append_eq (closing 16)]
  exact Entails.refl _

/-! ## The body -/

/-- The body, from whole buffers to whole buffers, the result's holding the finished blocks. -/
theorem body_run (c : Dev nD) {Q : PUnit → sProp 𝕄} :
    iprop(env m K ∗ owing c (owed₀ c) ∗ ghosts c ∗ credits c ∗ argsP m c ∗ bufs c ∗ held c oM)
      ⊢ iprop(((owing c 0 ∗ argsP m c ∗ bufs c ∗ zeros c cellList ∗ owns (c : Thread nD τ) oM fullShare (outV m)) -∗ Q ⟨⟩)
          -∗ run c (bodyArgs (cc0_body (F := F))) Q) := by
  unfold ghosts credits argsP bufs
  iintro ⟨#HE, HO, ⟨Hou, Hat, Hbar, Hdy, ⟨Hw0, Ht0⟩, ⟨Hw1, Ht1⟩, Htx, Hty⟩, ⟨Hcb, Hcr⟩, ⟨Ha, Hb⟩, ⟨Hdv, Hdb, Hwv, Hwb, Hpn, Hpo, Hrb⟩, Ho⟩ Hk
  ihave Hb := (b_halves m c) $$ Hb
  icases Hb with ⟨Hl, Hr⟩
  ihave Ho := (blocks_of_out c) $$ Ho
  ihave Ho := (Entails.of_eq (around c _)) $$ Ho
  icases Ho with ⟨Ho, Hox, Hoy, Hoz⟩
  ihave Ho := (Entails.of_eq (four _)) $$ Ho
  icases Ho with ⟨Ho0, Ho1, Ho2, Ho3⟩
  ihave Hwv := (held_cut c wvM (r := slotW) (fun _ _ => rfl) cuts_slotW) $$ Hwv
  ihave Hwv := (Entails.of_eq (two _)) $$ Hwv
  icases Hwv with ⟨Hv0, Hv1⟩
  ihave Hwb := (held_cut c wbM (r := slotW) (fun _ _ => rfl) cuts_slotW) $$ Hwb
  ihave Hwb := (Entails.of_eq (two _)) $$ Hwb
  icases Hwb with ⟨Hb0, Hb1⟩
  ihave Hpn := (held_cut c pnM (r := slotT) (fun _ _ => rfl) cuts_slotT) $$ Hpn
  ihave Hpn := (Entails.of_eq (four _)) $$ Hpn
  icases Hpn with ⟨Hn0, Hn1, Hn2, Hn3⟩
  ihave Hpo := (held_cut c poM (r := slotP) (fun _ _ => rfl) cuts_slotP) $$ Hpo
  ihave Hpo := (Entails.of_eq (four _)) $$ Hpo
  icases Hpo with ⟨Hp0, Hp1, Hp2, Hp3⟩
  ihave Hrb := (held_cut c rbM (r := slotT) (fun _ _ => rfl) cuts_slotT) $$ Hrb
  iapply (body_pieces m K c) $$ [HO Htx Hrb Hox Hty Hoy Hoz Hbar Hcb Hou Hat Hcr Hdy Ha Hdv Hdb Hw0 Ht0 Hl Hw1 Ht1 Hr Hv0 Hv1 Hb0 Hb1 Hp0 Hp1 Hp2 Hp3 Hn0 Hn1 Hn2 Hn3 Ho0 Ho1 Ho2 Ho3]
  · isplitr; · iexact HE
    isplitl [HO]; · iexact HO
    isplitl [Htx]; · iexact Htx
    isplitl [Hrb Hox]
    · rw [lands_x]
      isplitl [Hrb]; · iexact Hrb
      iexact Hox
    isplitl [Hty]; · iexact Hty
    isplitl [Hoy Hoz]
    · rw [lands_y]
      isplitl [Hoy]; · iexact Hoy
      iexact Hoz
    isplitl [Hbar]; · iexact Hbar
    isplitl [Hcb]; · iexact Hcb
    isplitl [Hou]; · iexact Hou
    isplitl [Hat Hcr]
    · unfold ins
      iapply (show iprop((bigSepL order fun t => atPos ER (gcell c (.rcv t)) 0 ∅ 0) ∗ bigSepL order fun t => cred (tallyAt (gcell c (.rcv t)) () nT))
        ⊢ (bigSepL order fun t => iprop(atPos ER (gcell c (.rcv t)) 0 ∅ 0 ∗ cred (tallyAt (gcell c (.rcv t)) () nT)) : sProp 𝕄) from
          order_sep _ _)
      isplitl [Hat]; · iexact Hat
      iexact Hcr
    isplitl [Hdy Ha]
    · unfold dIdle
      icases Hdy with ⟨H1, H2⟩
      isplitl [H1]; · iexact H1
      isplitl [H2]; · iexact H2
      iexact Ha
    isplitl [Hdv]; · iexact Hdv
    isplitl [Hdb]; · iexact Hdb
    isplitl [Hw0 Ht0 Hl]
    · unfold wIdle
      isplitl [Hw0]; · iexact Hw0
      isplitr; · iapply (env_reached m K c (.w 0)); iexact HE
      isplitl [Ht0]; · iexact Ht0
      iexact Hl
    isplitl [Hw1 Ht1 Hr]
    · unfold wIdle
      isplitl [Hw1]; · iexact Hw1
      isplitr; · iapply (env_reached m K c (.w 1)); iexact HE
      isplitl [Ht1]; · iexact Ht1
      iexact Hr
    isplitl [Hv0]; · rw [held_squeeze]; iexact Hv0
    isplitl [Hv1]; · rw [held_squeeze]; iexact Hv1
    isplitl [Hb0]; · iexact Hb0
    isplitl [Hb1]; · iexact Hb1
    isplitl [Hp0]; · iexact Hp0
    isplitl [Hp1]; · iexact Hp1
    isplitl [Hp2]; · iexact Hp2
    isplitl [Hp3]; · iexact Hp3
    isplitl [Hn0]; · iexact Hn0
    isplitl [Hn1]; · iexact Hn1
    isplitl [Hn2]; · iexact Hn2
    isplitl [Hn3]; · iexact Hn3
    isplitl [Ho0]; · iexact Ho0
    isplitl [Ho1]; · iexact Ho1
    isplitl [Ho2]; · iexact Ho2
    iexact Ho3
  iintro ⟨HS, Hdv, Ha, Hdb, ⟨Hz0, Hl⟩, ⟨Hz1, Hr⟩, Hv0, Hv1, Hb0, Hb1, Hp0, Hp1, Hp2, Hp3⟩
  unfold Sl St
  icases HS with ⟨HO, -, -, -, -, Hg, Hbk, Hz⟩
  ihave Hg := (gots_split m c) $$ Hg
  icases Hg with ⟨Hrb, Hoy, Hoz⟩
  ihave Hbk := (backs_split m c) $$ Hbk
  icases Hbk with ⟨Hpn, Ho, Hox⟩
  iapply Hk
  isplitl [HO]; · iexact HO
  isplitl [Ha Hl Hr]
  · isplitl [Ha]; · iexact Ha
    iapply (b_whole m c)
    isplitl [Hl]; · iexact Hl
    iexact Hr
  isplitl [Hdv Hdb Hv0 Hv1 Hb0 Hb1 Hpn Hp0 Hp1 Hp2 Hp3 Hrb]
  · isplitl [Hdv]; · iexact Hdv
    isplitl [Hdb]; · iexact Hdb
    isplitl [Hv0 Hv1]
    · iapply (held_join c wvM (r := slotW) (fun _ _ => rfl) cuts_slotW)
      rw [two]
      isplitl [Hv0]; · rw [← held_squeeze c (wvS 0) squeezes_S1x256x4096_S256x4096]; iexact Hv0
      rw [← held_squeeze c (wvS 1) squeezes_S1x256x4096_S256x4096]; iexact Hv1
    isplitl [Hb0 Hb1]
    · iapply (held_join c wbM (r := slotW) (fun _ _ => rfl) cuts_slotW)
      rw [two]
      isplitl [Hb0]; · iexact Hb0
      iexact Hb1
    isplitl [Hpn]
    · iapply (held_join c pnM (r := slotT) (fun _ _ => rfl) cuts_slotT); iexact Hpn
    isplitl [Hp0 Hp1 Hp2 Hp3]
    · iapply (held_join c poM (r := slotP) (fun _ _ => rfl) cuts_slotP)
      rw [four]
      isplitl [Hp0]; · iexact Hp0
      isplitl [Hp1]; · iexact Hp1
      isplitl [Hp2]; · iexact Hp2
      iexact Hp3
    iapply (held_join c rbM (r := slotT) (fun _ _ => rfl) cuts_slotT); iexact Hrb
  isplitl [Hz Hz0 Hz1]
  · iapply (zeros_all c)
    isplitl [Hz]; · iexact Hz
    isplitl [Hz0]; · iexact Hz0
    iexact Hz1
  iapply (out_of_blocks m c)
  rw [around c fun d => bigSep Finset.univ fun k : Fin 4 => owns (c : Thread nD τ) (blk d k) fullShare (done m d k)]
  isplitl [Ho]; · iexact Ho
  isplitl [Hox]; · iexact Hox
  isplitl [Hoy]; · iexact Hoy
  iexact Hoz

end Cert.Exchange

end
-- ==== Proof.Deal.lean ====
/-
# The protocol dealt to the devices

At the launch every cell's record is made; its rounds' state, with its counter at zero, becomes an invariant all devices know,
and the rights to pay its duties go to the devices that will pay them. What the others owe a device is its credit.
-/
module

public import proofs.«01_k».proof.Proof.Ends
public import Idealize.ShloMosaic.Lib.Pipeline.Launch

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## All cells of a device -/

omit [FloatOps F] in
/-- A family over a device's cells, kind by kind. -/
theorem cells_eq (Φ : Cell → sProp 𝕄) :
    bigSep Finset.univ Φ = iprop(Φ .bar ∗ Φ .dy ∗ Φ (.w 0) ∗ Φ (.w 1) ∗ (bigSepL order fun t => Φ (.snd t)) ∗ bigSepL order fun t => Φ (.rcv t)) := by
  rw [bigSep_eq_bigSepL_of_eq (S := Finset.univ) cellList cellList_univ cellList_nodup Φ]
  unfold cellList
  rw [bigSepL_cons', bigSepL_cons', bigSepL_cons', bigSepL_cons', bigSepL_append, bigSepL_map, bigSepL_map]

omit [FloatOps F] in
/-- A product over the two truth values, written out. -/
theorem bools_eq (Φ : Bool → sProp 𝕄) : bigSep Finset.univ Φ = iprop(Φ false ∗ Φ true) := bigSep_univ_eq_bigSepL [false, true] (by decide) (by decide) Φ

/-! ## The duties' rights, minted at their cells and dealt to those who pay -/

/-- The round and the duty a cell's `b`-th right is for. -/
def roundOf : Cell → Bool → ℕ | .w _, true => 1 | _, _ => 0
@[inherit_doc roundOf] def dutyOf : Cell → Bool → Bool | .bar, b => b | .dy, b => b | .snd _, b => b | .rcv _, b => b | .w _, _ => false

/-- Of one cell, a duty is determined by its round and its name. -/
theorem round_duty {i : Cell} {b b' : Bool} (h1 : roundOf i b = roundOf i b') (h2 : dutyOf i b = dutyOf i b') : b = b' := by
  cases i with
  | w j => cases b <;> cases b' <;> first | rfl | exact absurd h1 Nat.zero_ne_one | exact absurd h1 Nat.one_ne_zero
  | _ => exact h2

/-- Device `c`'s cell `i`'s `b`-th right. -/
abbrev tok (i : Cell) (b : Bool) (c : Dev nD) : sProp 𝕄 := dutyTok ER (gcell c i) (roundOf i b) (dutyOf i b)

/-- The device that pays it, from its cell's device, and back. -/
def payer : Cell → Bool → (Dev nD ≃ Dev nD)
  | .bar, true => pairX
  | .bar, false => pairY
  | .rcv t, _ => pairT t
  | .dy, _ | .w _, _ | .snd _, _ => Equiv.refl _

/-- The rights at a device's own cells, and those it holds. -/
def minted (c : Dev nD) : sProp 𝕄 := bigSep Finset.univ fun i : Cell => bigSep Finset.univ fun b : Bool => tok i b c
@[inherit_doc minted] def dealt (c : Dev nD) : sProp 𝕄 := bigSep Finset.univ fun i : Cell => bigSep Finset.univ fun b : Bool => tok i b (payer i b c)

omit [FloatOps F] in
/-- All rights minted are dealt. -/
theorem deal : (bigSep Finset.univ fun c : Dev nD => minted (F := F) c) = bigSep Finset.univ fun c : Dev nD => dealt c := by
  unfold minted dealt
  rw [Pipeline.bigSep_univ_comm, Pipeline.bigSep_univ_comm (fun (c : Dev nD) (i : Cell) => bigSep Finset.univ fun b : Bool => (tok i b (payer i b c) : sProp 𝕄))]
  refine bigSep_congr fun i _ => ?_
  rw [Pipeline.bigSep_univ_comm, Pipeline.bigSep_univ_comm (fun (c : Dev nD) (b : Bool) => (tok i b (payer i b c) : sProp 𝕄))]
  exact bigSep_congr fun b _ => bigSep_univ_equiv (payer i b) (fun c : Dev nD => (tok i b c : sProp 𝕄))

/-- A device's places at its own cells. -/
def places (c : Dev nD) : sProp 𝕄 := bigSep Finset.univ fun i : Cell => atPos ER (gcell c i) 0 ∅ 0

omit [FloatOps F] in
/-- Its places and the rights it holds are what its body starts from. -/
theorem ghosts_of (c : Dev nD) : iprop(places (F := F) c ∗ dealt c) ⊢ ghosts c := by
  unfold places dealt ghosts outs toks
  rw [cells_eq, cells_eq]
  simp only [bools_eq]
  iintro ⟨⟨Hb, Hd, H0, H1, Hs, Hr⟩, ⟨Ty, Tx⟩, ⟨Td, -⟩, T0, T1, Ts, Tr⟩
  isplitl [Hs Ts Tr]
  · ihave Ts := (show _ ⊢ bigSepL order (fun t => (dutyTok ER (gcell c (.snd t)) 0 false : sProp 𝕄)) from
      bigSepL_mono fun t _ => show iprop(tok (.snd t) false (payer (.snd t) false c) ∗ tok (.snd t) true (payer (.snd t) true c))
        ⊢ (dutyTok ER (gcell c (.snd t)) 0 false : sProp 𝕄) from by iintro ⟨H, -⟩; iexact H) $$ Ts
    ihave Tr := (show _ ⊢ bigSepL order (fun t => (dutyTok ER (gcell (peer c t) (.rcv t)) 0 false : sProp 𝕄)) from
      bigSepL_mono fun t _ => show iprop(tok (.rcv t) false (payer (.rcv t) false c) ∗ tok (.rcv t) true (payer (.rcv t) true c))
        ⊢ (dutyTok ER (gcell (peer c t) (.rcv t)) 0 false : sProp 𝕄) from by iintro ⟨H, -⟩; iexact H) $$ Tr
    iapply (order_sep _ _)
    isplitl [Ts]; · iexact Ts
    iapply (order_sep _ _)
    isplitl [Tr]; · iexact Tr
    iexact Hs
  isplitl [Hr]; · iexact Hr
  isplitl [Hb]; · iexact Hb
  isplitl [Hd Td]
  · isplitl [Hd]; · iexact Hd
    iexact Td
  isplitl [H0 T0]
  · isplitl [H0]; · iexact H0
    iexact T0
  isplitl [H1 T1]
  · isplitl [H1]; · iexact H1
    iexact T1
  isplitl [Tx]; · iexact Tx
  iexact Ty

/-! ## The launch's element -/

theorem cell_inj : Function.Injective fun ci : Dev nD × Cell => gcell ci.1 ci.2 := fun a b h =>
  Prod.ext (gcell_inj.mp h).1 (gcell_inj.mp h).2
/-- All cells. -/
def allCells : Finset (GSem nD τ sig) := Finset.univ.map ⟨fun ci : Dev nD × Cell => gcell ci.1 ci.2, cell_inj⟩

/-- Different duties of different cells have different tokens. -/
theorem right_inj : Function.Injective fun x : Dev nD × Cell × Bool => (gcell x.1 x.2.1, roundOf x.2.1 x.2.2, dutyOf x.2.1 x.2.2) := by
  rintro ⟨c, i, b⟩ ⟨c', i', b'⟩ h
  have h1 := gcell_inj.mp (congrArg Prod.fst h)
  obtain ⟨h1, h2⟩ := h1
  dsimp only at h1 h2
  subst h1; subst h2
  have h2 := congrArg Prod.snd h
  have h3 := round_duty (congrArg Prod.fst h2) (congrArg Prod.snd h2)
  dsimp only at h3
  rw [h3]
/-- All rights. -/
def allToks : Finset (GSem nD τ sig × ℕ × Bool) :=
  Finset.univ.map ⟨fun x : Dev nD × Cell × Bool => (gcell x.1 x.2.1, roundOf x.2.1 x.2.2, dutyOf x.2.1 x.2.2), right_inj⟩

/-- The records at the launch: the staging cells' beside the exchange's, all unpaid. -/
def u₀ : UU := (initOf (Pipeline.cells cfgs cellOf_inj) (Pipeline.launchToks cfgs cellOf_inj), initOf allCells allToks)

/-- Each device's part of the element. -/
def share₀ (c : Dev nD) : sProp 𝕄 :=
  iprop((bigSep Finset.univ fun i : Cell => roundState ER (sched m) (gcell c i) 0)
    ∗ (places c ∗ bigSep Finset.univ fun i : Cell => reached ER (gcell c i) 0) ∗ minted c)

/-- The records at the launch, shared out to the devices. -/
theorem fund_all : BI.own (ER (initOf allCells allToks)) ⊢ (|==> bigSep Finset.univ (share₀ (F := F) m) : sProp 𝕄) := by
  have hX (Φ : GSem nD τ sig → sProp 𝕄) : bigSep allCells Φ = bigSep Finset.univ fun c : Dev nD => bigSep Finset.univ fun i : Cell => Φ (gcell c i) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold share₀ places; simp only [bigSep_sep']
  isplitl [Hst]; · iexact Hst
  isplitl [Hat Hr]
  · isplitl [Hat] <;> iassumption
  iexact Htok

/-! ## The semaphores -/

/-- The body's own semaphores: every cell's but the barrier's. -/
abbrev Own : Type := {i : Cell // i ≠ .bar}
/-- The semaphores the kernel declares for itself: all but the barrier. -/
abbrev osem : Own → SemLoc sig := fun i => csem i.1

omit [FloatOps F] in
/-- The barrier's cell and the kernel's own cells are all the cells. -/
theorem own_eq (Φ : Cell → sProp 𝕄) : iprop(Φ .bar ∗ bigSep Finset.univ fun i : Own => Φ i.1) = bigSep Finset.univ Φ := by
  rw [bigSep_univ_at Φ Cell.bar]
  refine congrArg (fun P => iprop(Φ .bar ∗ P)) ?_
  rw [show (Finset.univ.erase Cell.bar : Finset Cell) = Finset.univ.map ⟨(Subtype.val : Own → Cell), Subtype.val_injective⟩ from by decide, bigSep_map]
  rfl

omit [FloatOps F] in
/-- The kernel's own counters at zero, cell by cell. -/
theorem ownSems0_eq (c : Dev nD) :
    (Pipeline.ownSems0 (Ix := Unit) (Name := ℕ) (U := UU) (Lvl := ℕ) (Val := Elt F) (τ := τ) osem c : sProp 𝕄) = bigSep Finset.univ fun i : Own => semVal (gcell c i.1) 0 := rfl
omit [FloatOps F] in
/-- The one counter that outlives the kernel is the barrier's. -/
theorem unscopedSems0_eq (c : Dev nD) : (unscopedSems0 c : sProp 𝕄) = semVal (gcell c .bar) 0 := by
  unfold unscopedSems0; rw [bigSep_eq_bigSepL_of_eq [SemLoc.reg barS] (by decide) (by decide)]; rfl

omit [FloatOps F] in
/-- All counters of a device at zero, cell by cell. -/
theorem sems_eq (c : Dev nD) :
    iprop(unscopedSems0 c ∗ Pipeline.ownSems0 (Ix := Unit) (Name := ℕ) (U := UU) (Lvl := ℕ) (Val := Elt F) (τ := τ) osem c)
      = (bigSep Finset.univ fun i : Cell => semVal (gcell c i) 0 : sProp 𝕄) := by
  rw [ownSems0_eq, unscopedSems0_eq]; exact own_eq fun i => semVal (gcell c i) 0

/-! ## Every cell's invariant made, and the devices' parts regrouped -/

theorem made (c : Dev nD) :
    iprop(Pipeline.ownSems0 (Ix := Unit) (Name := ℕ) (U := UU) (Lvl := ℕ) (Val := Elt F) (τ := τ) osem c ∗ unscopedSems0 c ∗ share₀ m c)
      ⊢ |={Set.univ}=> iprop((bigSep Finset.univ fun i => iprop(∃ κ : ℕ, cellInv ER (sched m) κ (gcell c i)))
          ∗ (places c ∗ bigSep Finset.univ fun i : Cell => reached ER (gcell c i) 0) ∗ minted c) := by
  unfold share₀
  iintro ⟨Hos, Hus, Hst, Hat, Htok⟩
  ihave Hv := (Entails.of_eq (sems_eq (F := F) c)) $$ [Hos Hus]
  · isplitl [Hus] <;> iassumption
  imod (show iprop((bigSep Finset.univ fun i : Cell => semVal (gcell c i) 0) ∗ bigSep Finset.univ fun i : Cell => roundState ER (sched m) (gcell c i) 0)
      ⊢ (|={Set.univ}=> bigSep Finset.univ fun i => iprop(∃ κ : ℕ, cellInv ER (sched m) κ (gcell c i)) : sProp 𝕄) from by
        rw [← bigSep_sep']
        exact (bigSep_mono fun i _ => (Rounds.body_intro ER (sched m) (gcell c i)).trans inv_alloc).trans (bigSep_fupd _ _)) $$ [Hv Hst] with Hinv
  · isplitl [Hv] <;> iassumption
  imodintro
  isplitl [Hinv]; · iexact Hinv
  isplitl [Hat]; · iexact Hat
  iexact Htok

/-- What a device holds once all invariants are made. -/
def given (c : Dev nD) : sProp 𝕄 := iprop(∃ K, records m K ∗ ghosts c)

omit [FloatOps F] in
/-- A persistent fact goes to every member of a family. -/
theorem each_of {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

/-- The cells, places and tokens of all devices, dealt out: each device gets what it works with. -/
theorem regrouped :
    (bigSep Finset.univ fun c : Dev nD => iprop((bigSep Finset.univ fun i => iprop(∃ κ : ℕ, cellInv ER (sched m) κ (gcell c i)))
          ∗ (places c ∗ bigSep Finset.univ fun i : Cell => reached ER (gcell c i) 0) ∗ minted c) : sProp 𝕄)
      ⊢ bigSep Finset.univ (given m) := by
  rw [bigSep_sep', bigSep_sep', bigSep_sep', deal,
    ← bigSep_univ_prod (fun ci : Dev nD × Cell => iprop(∃ κ : ℕ, cellInv ER (sched m) κ (gcell ci.1 ci.2))),
    ← bigSep_univ_prod (fun ci : Dev nD × Cell => (reached ER (gcell ci.1 ci.2) 0 : sProp 𝕄))]
  iintro ⟨HI, ⟨Hat, #HR⟩, Htok⟩
  ihave HK := (BI.bigSep_exists_pi Finset.univ (fun (ci : Dev nD × Cell) (κ : ℕ) => (cellInv ER (sched m) κ (gcell ci.1 ci.2) : sProp 𝕄))) $$ HI
  icases HK with ⟨%K, #HI⟩
  iapply (each_of (R := records m K) (Φ := fun c => iprop(places c ∗ dealt c)) fun c => show _ ⊢ given m c from by
    unfold given
    iintro ⟨H, Hg⟩
    iexists K
    isplitl [H]; · iexact H
    iapply (ghosts_of c); iexact Hg)
  isplitr
  · unfold records; isplitl; · iexact HI
    iexact HR
  · rw [bigSep_sep']
    isplitl [Hat] <;> iassumption

/-- From the counters and records of all devices: every cell is set up, and every device gets its start. -/
theorem glob : (bigSep Finset.univ fun c => iprop(Pipeline.ownSems0 (Ix := Unit) (Name := ℕ) (U := UU) (Lvl := ℕ) (Val := Elt F) (τ := τ) osem c ∗ unscopedSems0 c ∗ share₀ m c) : sProp 𝕄)
    ⊢ |={Set.univ}=> bigSep Finset.univ (given m) :=
  ((bigSep_mono fun c _ => made m c).trans (bigSep_fupd _ _)).trans (BI.fupd_mono (regrouped m))

/-! ## The credit of what the others owe -/

omit [FloatOps F] in
/-- If every device owes `n` units to its partner's cell `i`, each device has `n` units to come at its own. -/
theorem cred_pair (e : Dev nD ≃ Dev nD) (he : ∀ c, e (e c) = c) (i : Cell) (n : ℕ) (c : Dev nD) :
    (Pipeline.launchCred (fun d => tallyAt (gcell (e d) i) () n) c : sProp 𝕄) ⊢ cred (tallyAt (gcell c i) () n) := by
  refine (Pipeline.launchCred_elim _ c (csem i)).trans (Entails.of_eq (congrArg cred ?_))
  unfold tallyAt; refine congrArg _ (Finsupp.ext fun u => ?_); cases u
  rw [Pipeline.launchCredit_owing, Finsupp.single_eq_same]
  have h (d : Dev nD) : (tallyOn (gcell (e d) i) (Finsupp.single () n) : CellTallies nD τ sig Unit) (gcell c i) () = if d = e c then n else 0 := by
    rw [show (tallyOn (gcell (e d) i) (Finsupp.single () n) : CellTallies nD τ sig Unit) = tallyAt (gcell (e d) i) () n from rfl, tallyAt_apply]
    by_cases hd : d = e c
    · subst hd; rw [he, if_pos ⟨rfl, rfl⟩, if_pos rfl]
    · rw [if_neg (fun h' => hd (by rw [(gcell_inj.mp h'.1).1, he])), if_neg hd]
  rw [Finset.sum_congr rfl fun d _ => h d, Finset.sum_ite_eq' Finset.univ (e c) fun _ => n, if_pos (Finset.mem_univ _)]

omit [FloatOps F] in
/-- The credits for a list of transfers, one by one. -/
theorem cred_list (l : List Xfer) (c : Dev nD) :
    (Pipeline.launchCred (fun d => owedL d l) c : sProp 𝕄) ⊢ bigSepL l fun t => cred (tallyAt (gcell c (.rcv t)) () nT) := by
  induction l with
  | nil => iintro -; iempintro
  | cons t l ih =>
    rw [bigSepL_cons']
    show (Pipeline.launchCred (fun d => owedL d l + tallyAt (gcell (peer d t) (.rcv t)) () nT) c : sProp 𝕄) ⊢ _
    rw [Pipeline.launchCred_add]
    iintro ⟨Hl, Ht⟩
    isplitl [Ht]
    · iapply (cred_pair (F := F) (pairT t) (peer_peer · t) (.rcv t) nT c); iexact Ht
    iapply ih; iexact Hl

omit [FloatOps F] in
/-- What the launch lends a device is what it will wait for. -/
theorem credits_of (c : Dev nD) : (Pipeline.launchCred owed₀ c : sProp 𝕄) ⊢ credits c := by
  unfold credits
  rw [show (owed₀ : Dev nD → CellTallies nD τ sig Unit)
    = fun d => (fun d => (fun d => owedL d order) d + (fun d => tallyAt (gcell (yn d) .bar) () 1) d) d + (fun d => tallyAt (gcell (xn d) .bar) () 1) d from rfl,
    Pipeline.launchCred_add, Pipeline.launchCred_add]
  iintro ⟨⟨Hl, Hy⟩, Hx⟩
  ihave Hy := (show (Pipeline.launchCred (fun d => tallyAt (gcell (yn d) .bar) () 1) c : sProp 𝕄) ⊢ _ from cred_pair (F := F) pairY yn_yn .bar 1 c) $$ Hy
  ihave Hx := (show (Pipeline.launchCred (fun d => tallyAt (gcell (xn d) .bar) () 1) c : sProp 𝕄) ⊢ _ from cred_pair (F := F) pairX xn_xn .bar 1 c) $$ Hx
  isplitl [Hy Hx]
  · rw [show (2 : ℕ) = 1 + 1 from rfl, ← tallyAt_add]
    iapply ((cred_add _ _).2)
    isplitl [Hy] <;> iassumption
  iapply (cred_list order c); iexact Hl

end Cert.Exchange

end
-- ==== Proof.Launch.lean ====
/-
# The launch

The whole program, from any memory with its semaphores at zero: it ends, every device's result holds the finished blocks, the
arguments are as they were and every semaphore is at zero.
-/
module

public import proofs.«01_k».proof.Proof.Deal
public import proofs.«01_k».proof.Proof.Gen.KernelIdeal.Launch
public import Idealize.ShloMosaic.Lib.Pipeline.Value
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Any memory, with every semaphore at zero. -/
abbrev s₀ : MemSt nD τ sig (Elt F) := ⟨m, fun _ => 0, ρ⟩

/-! ## The body's obligation -/

/-- What the region hands a device's body. -/
def start (c : Dev nD) : sProp 𝕄 := iprop(given m c ∗ credits c ∗ levAts L lv ∗ argsP m c)
/-- What a device holds before its one grid point: its start and its buffers. -/
def Φ₀ (c : Dev nD) : sProp 𝕄 := iprop(start m c ∗ bufs c)
/-- What the body leaves. -/
def Φ₁ (c : Dev nD) : sProp 𝕄 := iprop(argsP m c ∗ bufs c ∗ zeros c cellList)

/-- What the launch needs to know of each device: the arrays before and after, what is held at each point, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => owed₀ c
    | ⟨_ + 1, _⟩ => 0

/-- The body between what the pipeline hands it and what it takes back. -/
theorem body_wp (c : Dev nD) :
    iprop(Φ₀ m c ∗ (dats m ρ 0 c).owesAt () (t0_0 : Fin cfg0.N).castSucc
        ∗ ∃ d, owns (c : Thread nD τ) oM fullShare ((dats m ρ 0 c).before (0 : Fin 1) t0_0 d))
      ⊢ run c (bodyArgs (cc0_body (F := F)))
          (fun _ => iprop(Φ₁ m c ∗ (dats m ρ 0 c).owesAt () (t0_0 : Fin cfg0.N).succ ∗ owns (c : Thread nD τ) oM fullShare (outV m))) := by
  unfold Φ₀ start given Dat.owesAt Pipeline.owesWithin
  rw [show (dats m ρ 0 c).owed (t0_0 : Fin cfg0.N).castSucc = owed₀ c from rfl, show (dats m ρ 0 c).owed (t0_0 : Fin cfg0.N).succ = 0 from rfl]
  iintro ⟨⟨⟨⟨%K, #HR, Hg⟩, Hc, #HL, Ha⟩, Hb⟩, ⟨%W, -, HO⟩, ⟨%d, Ho⟩⟩
  iapply (body_run m K c (Q := fun _ => _)) $$ [Hg Hc Ha Hb HO Ho]
  · isplitr
    · unfold env; isplitl; · iexact HR
      iexact HL
    isplitl [HO]; · unfold owing; iexists W; iexact HO
    isplitl [Hg]; · iexact Hg
    isplitl [Hc]; · iexact Hc
    isplitl [Ha]; · iexact Ha
    isplitl [Hb]; · iexact Hb
    unfold held; iexists _; iexact Ho
  unfold owing Φ₁
  iintro ⟨⟨%W', HO⟩, Ha, Hb, Hz, Ho⟩
  isplitl [Ha Hb Hz]
  · isplitl [Ha]; · iexact Ha
    isplitl [Hb]; · iexact Hb
    iexact Hz
  isplitl [HO]
  · iexists W'
    isplitr; · ipureintro; exact fun _ _ => Or.inl trivial
    iexact HO
  iexact Ho

set_option maxRecDepth 8000 in
/-- The pipeline's obligation for the body on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = Φ (0 : Fin 1) from bigSep_W0, show ∀ Φ : Fin cfg0.W → sProp 𝕄, bigSep Finset.univ Φ = Φ (0 : Fin 1) from bigSep_W0]
  exact body_wp m ρ c

/-! ## The launch's side conditions -/

theorem ownSemFacts : Pipeline.OwnSemFacts cfg0.spec osem := by decide
/-- The window is held outright. -/
theorem share_eq (c : Dev nD) (w : Fin cfg0.W) : (dats m ρ 0 c).share w = fullShare := by unfold Dat.share; split <;> rfl

omit [FloatOps F] in
/-- A buffer held at some contents. -/
theorem held_whole (c : Dev nD) (b : Ref sig .tc) :
    (held (F := F) c (Memref.whole b)) = iprop(∃ f : Buf (Elt F) ((c : Thread nD τ).loc b), ((c : Thread nD τ).loc b) ↦{fullShare} f) := by
  unfold held; simp only [owns_whole]

omit [FloatOps F] in
/-- The scoped buffers that are not the window's are the kernel's scratch. -/
theorem bufs_eq (c : Dev nD) : (Pipeline.scopedRest (Ix := Unit) (Name := ℕ) (U := UU) (Lvl := ℕ) (Val := Elt F) cfg0.spec c : sProp 𝕄) = bufs c := by
  rw [scopedRest0_eq]; unfold bufs
  rw [held_whole, held_whole, held_whole, held_whole, held_whole, held_whole, held_whole]

/-- What the launch hands a device makes its start. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ given m c)
      ⊢ |={Set.univ}=> iprop(start m c ∗ emp) := by
  rw [Pipeline.unscopedRestP_none, unscopedRest0_eq]
  iintro ⟨Ha, Hlev, Hcr, -, HG⟩
  ihave Hc := (credits_of (F := F) c) $$ Hcr
  imodintro
  unfold start argsP aPts bPts
  isplitl
  · isplitl [HG]; · iexact HG
    isplitl [Hc]; · iexact Hc
    isplitl [Hlev]; · iexact Hlev
    iexact Ha
  · iempintro

/-- … and, with its scratch, what it holds before the grid point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, bufs_eq]
  unfold Φ₀
  iintro ⟨Hs, -, Hr⟩
  isplitl [Hs]; · iexact Hs
  iexact Hr

/-- What a device holds after the grid point gives back scratch, counters and arguments. -/
theorem phi1_exit (c : Dev nD) :
    (dats m ρ 0 c).Φ (Fin.last cfg0.N) ⊢ iprop((unscopedSems0 c ∗ argsP m c) ∗ Pipeline.ownSems0 osem c ∗ Pipeline.scopedRest cfg0.spec c) := by
  rw [show (dats m ρ 0 c).Φ (Fin.last cfg0.N) = Φ₁ m c from rfl, bufs_eq]
  unfold Φ₁ zeros
  rw [← bigSep_eq_bigSepL_of_eq (S := Finset.univ) cellList cellList_univ cellList_nodup, ← sems_eq]
  iintro ⟨Ha, Hb, Hu, Ho⟩
  isplitl [Hu Ha]
  · isplitl [Hu]; · iexact Hu
    iexact Ha
  isplitl [Ho]; · iexact Ho
  iexact Hb

/-- Whatever is owed at the grid point, the staging cell may be waited for. -/
theorem waits_ok (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

omit [FloatOps F] in
/-- A buffer held outright is what the memory has there. -/
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s' fullShare
  rw [bigSep_singleton] at h
  refine h.trans ?_
  iintro ⟨%hx, H⟩
  isplitr; · ipureintro; exact hx () (Finset.mem_singleton_self _)
  iexact H

omit [FloatOps F] in
/-- The arguments held at the end are read off the memory. -/
theorem args_read (c : Dev nD) (s' : Phys nD τ sig (Elt F)) :
    iprop(argsP m c ∗ SI s') ⊢ iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') := by
  unfold argsP aPts bPts
  iintro ⟨⟨Ha, Hb⟩, HS⟩
  ihave H := (read_one _ _ s') $$ [Ha HS]
  · isplitl [Ha] <;> iassumption
  icases H with ⟨%h0, HS⟩
  ihave H := (read_one _ _ s') $$ [Hb HS]
  · isplitl [Hb] <;> iassumption
  icases H with ⟨%h1, HS⟩
  isplitr; · ipureintro; exact ⟨h0, h1⟩
  iexact HS

/-! ## The run -/

/-- The result's array on device `c`, in the end. -/
abbrev finalA (c : Dev nD) (w : Fin cfg0.W) : Buf (Elt F) ((cfg0.win w).arr.view.loc (c : Thread nD τ)) := (dats m ρ 0 c).arrAt w cfg0.N

/-- What is written back is the whole result. -/
theorem flushed_whole (c : Dev nD) : (win0_0.blk t0_0).view.read (Elt F) (finalA m ρ c (0 : Fin 1)) = outV m := by
  show (win0_0.blk t0_0).view.read (Elt F) ((dats m ρ 0 c).arrAt (0 : Fin 1) ((t0_0 : Fin cfg0.N).val + 1)) = _
  rw [(dats m ρ 0 c).arrAt_succ (0 : Fin 1) t0_0, show (cfg0.win (0 : Fin 1)).flush t0_0 = true from by decide, if_pos rfl]
  exact View.read_write_univ _ _

/-- The window is the whole array, written back once: the array ends as the finished blocks. -/
theorem finalA_eq (c : Dev nD) : finalA m ρ c (0 : Fin 1) = outV m := by
  have hz : (fun a => (win0_0.index t0_0) a * main_v1.ty.shape.size a) = fun _ => 0 := funext fun a => by fin_cases a <;> decide
  exact (Memref.read_access_unit_zero (Elt F) main_v1 hz (fun a => by fin_cases a <;> decide) _).symm.trans (flushed_whole m ρ c)

/-- What a finished run leaves. -/
def Done (r : PUnit × MemSt nD τ sig (Elt F)) : Prop :=
  (∀ c : Dev nD, r.2.mem ((c : Thread nD τ).loc main_v1) = outV m
    ∧ r.2.mem ((c : Thread nD τ).loc main_arg0) = m ((c : Thread nD τ).loc main_arg0) ∧ r.2.mem ((c : Thread nD τ).loc main_arg1) = m ((c : Thread nD τ).loc main_arg1))
  ∧ r.2.sem = fun _ => 0

set_option maxRecDepth 8000 in
/-- From any memory with every semaphore at zero, the four devices' programs end, whatever the order of their steps: each
    has the finished blocks in its result, its arguments as they were, and every semaphore at zero again. -/
theorem run_main : θ_run defs (onTc (τ := τ) (main (F := F))) (s₀ m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits_ok m ρ)
    (G := share₀ m) (G' := given m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argsP m c)) (Z := fun _ => iprop(emp))
    (hX := start_intro m ρ) (hin := phi0_intro m ρ) (hout := phi1_exit m ρ)
    (QY := fun c s => (s.mem ((c : Thread nD τ).loc main_arg0) = m ((c : Thread nD τ).loc main_arg0) ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      iintro ⟨⟨Hu, Ha⟩, -, HSI⟩
      ihave H := (args_read m c s') $$ [Ha HSI]
      · isplitl [Ha] <;> iassumption
      icases H with ⟨%h, HSI⟩
      imod (Pipeline.unscopedSems0_read (X := unscopedSems0 c) (c := c) fupd_intro s') $$ [Hu HSI] with H
      · isplitl [Hu] <;> iassumption
      icases H with ⟨%hs, HSI⟩
      imodintro
      isplitr; · ipureintro; exact ⟨h, hs⟩
      iexact HSI)
    (hQ := fun s h hs => ⟨fun c => ⟨((h c).1 (0 : Fin 1)).trans (finalA_eq m ρ c), (h c).2.2.1⟩, sem_eq_zero hs fun c => (h c).2.2.2⟩)

end Cert.Exchange

end
-- ==== Proof.Frames.lean ====
/-
# The frames

The run of the launch, read as the kernel's two frame claims: over floats as words and over the extended reals.
-/
module

public import proofs.«01_k».proof.Defs
public import proofs.«01_k».proof.Proof.Launch
public import proofs.«01_k».proof.Proof.Gen.Kernel

@[expose] public section

noncomputable section

namespace Cert.Exchange

open Idealize.ShloMosaic Idealize.SL.Sem

open Cert.KernelIdeal Cert.KernelIdeal.Gen TcCoe

/-- Over any floats: the kernel ends, its arguments are unchanged, every semaphore is at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

/-! The program over words is the ideal one's, letter for letter. -/

theorem bodies_eq {F : FTy → Type} [FloatOps F] : Cert.Kernel.defs₀ (F := F) = Cert.KernelIdeal.defs₀ (F := F) := by
  unfold Cert.Kernel.defs₀ Cert.KernelIdeal.defs₀
  congr 1
  funext l x
  obtain ⟨l, h⟩ := l
  cases l with
  | zero =>
    obtain ⟨t, s⟩ := x
    show Cert.Kernel.cc0_body _ _ _ _ _ _ _ _ _ _ _ _ _ _ _ _ _ _ _ _ _ _ _ _ _ _ _ _ _ _
      = Cert.KernelIdeal.cc0_body _ _ _ _ _ _ _ _ _ _ _ _ _ _ _ _ _ _ _ _ _ _ _ _ _ _ _ _ _ _
    rfl
  | succ n => exact absurd h (Nat.not_lt.2 (Nat.le_add_left _ _))
@[inherit_doc bodies_eq] theorem tables_eq {F : FTy → Type} [FloatOps F] : Cert.Kernel.defs (F := F) = Cert.KernelIdeal.defs (F := F) := by
  unfold Cert.Kernel.defs Cert.KernelIdeal.defs
  exact congrArg (Pipeline.defs (Cert.KernelIdeal.pcfgs (F := F))) bodies_eq

/-- The kernel over words: the one run serves both programs. -/
theorem frame_kernel : Cert.quiescent_Kernel := fun m ρ _ =>
  Eq.mpr (congrArg (fun D => (θ_run D (onTc (τ := τ) (main (F := Bits))) ⟨m, fun _ => 0, ρ⟩) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)) (tables_eq (F := Bits)))
    (frame_any (F := Bits) m ρ)

/-- The kernel over the extended reals. -/
theorem frame_ideal : Cert.quiescent_KernelIdeal := fun m ρ _ => frame_any (F := Ideal) m ρ

end Cert.Exchange

end
-- ==== Proof.PartValue.lean ====
/-
# What one block computes

Over the extended reals: the rows and chunks a device fetches, read at a place of its arguments; its partial product, a sum of
4096 products; and its finished block, the sum of its own partial product and of that of its neighbour along `x`.
-/
module

public import proofs.«01_k».proof.Proof.Cover
public import Idealize.ShloMosaic.PureOps.Ideal
public import Idealize.ShloMosaic.Lib.MatmulPlain
public import Idealize.ShloMosaic.Lib.ValueIdx
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

variable (m : (ℓ : Loc nD τ sig) → Buf (Elt Ideal) ℓ)

/-- Row `r` of the rows device `c` fetches is row `512y + r` of its first argument. -/
theorem rowsA_at (c : Dev nD) (r : Fin 512) (l : Fin 4096) :
    rowsA m c (ix2 r l) = m ((c : Thread nD τ).loc main_arg0) (ix2 (⟨512 * (c.val % 2) + r.val, by have := r.isLt; omega⟩ : Fin 1024) l) := by
  show m ((c : Thread nD τ).loc main_arg0) ((Rect.unit (s := S1024x4096) (k0_off1 c) S512x4096.size (k0_off1_inb c)).emb (ix2 r l)) = _
  refine congrArg _ (Shape.idx_ext₂ ?_ ?_)
  · show k0_off1 c 0 + 1 * r.val = 512 * (c.val % 2) + r.val
    rw [k0_off1_eq]
    show 512 * (c.val % 2) + 1 * r.val = _
    omega
  · show k0_off1 c 1 + 1 * l.val = l.val
    rw [k0_off1_eq]
    show 0 + 1 * l.val = _
    omega

/-- Row `r` of chunk `k` is row `256k + r` of the second argument. -/
theorem chunkB_at (c : Dev nD) (k : Fin 4) (r : Fin 256) (l : Fin 4096) :
    chunkB m c k (ix2 r l) = m ((c : Thread nD τ).loc main_arg1) (ix2 (⟨256 * k.val + r.val, by have := r.isLt; have := k.isLt; omega⟩ : Fin 1024) l) := by
  show m ((c : Thread nD τ).loc main_arg1) ((chunkR k).emb (ix2 r l)) = _
  refine congrArg _ (Shape.idx_ext₂ ?_ ?_)
  · show 256 * k.val + 1 * r.val = 256 * k.val + r.val
    omega
  · show 0 + 1 * l.val = l.val
    omega

/-- Narrowing the fetched rows changes nothing over the reals. -/
theorem rowsN_eq (c : Dev nD) : rowsN m c = rowsA m c := by
  unfold rowsN k0_pay1
  exact shapeCast_self (truncf .bf16 (rowsA m c) bitsLt_bf16_f32 : FVec Ideal S512x4096 .bf16) shapeCasts_S512x4096_S512x4096

/-- A chunk seen with a leading axis of one, seen without it, is the chunk. -/
theorem chunkF_flat (c : Dev nD) (k : Fin 4) (h : S1x256x4096.ShapeCasts S256x4096) : shapeCast S256x4096 (chunkF m c k) h = chunkB m c k :=
  funext fun j => congrArg (chunkB m c k) (Equiv.symm_apply_apply _ j)

/-- Narrowing a chunk changes nothing over the reals. -/
theorem chunkN_flat (c : Dev nD) (k : Fin 4) (h : S1x256x4096.ShapeCasts S256x4096) : shapeCast S256x4096 (chunkN m c k) h = chunkB m c k := by
  unfold chunkN k0_pay2
  exact (shapeCast_shapeCast (truncf .bf16 (shapeCast S256x4096 (chunkF m c k) shapeCasts_S1x256x4096_S256x4096 : FVec Ideal S256x4096 .f32) bitsLt_bf16_f32 : FVec Ideal S256x4096 .bf16)
    shapeCasts_S256x4096_S1x256x4096 h).trans (chunkF_flat m c k _)

/-- The partial product at a place: 4096 products of a row of the first argument and a row of the second. -/
theorem part_at (c : Dev nD) (k : Fin 4) (r : Fin 512) (j : Fin 256) :
    part m c k (ix3 (0 : Fin 1) r j) = ∑ l : Fin 4096, rowsA m c (ix2 r l) * chunkB m c k (ix2 j l) := by
  unfold part k0_pay3
  rw [rowsN_eq, chunkN_flat]
  refine (shapeCast_apply _ _ (ix3 (0 : Fin 1) r j) (ix2 r j) ?_).trans ?_
  · rw [Shape.rowMajor_val_two, Shape.rowMajor_val_three]
    show r.val * 256 + j.val = (0 * 512 + r.val) * 256 + j.val
    omega
  refine (Ideal.matmul_transposedRhs_apply none (rowsA m c) (chunkB m c k) _ r j).trans ?_
  show Ideal.ofBits .f32 0x00000000#32 + _ = _
  rw [Ideal.ofBits_zero_f32, zero_add]

/-- The rows `256h …` of a partial product. -/
theorem partRows_at (c : Dev nD) (k : Fin 4) (h : Fin 2) (i j : Fin 256) :
    partRows m c k h (ix3 (0 : Fin 1) i j)
      = ∑ l : Fin 4096, rowsA m c (ix2 (⟨256 * h.val + i.val, by have := i.isLt; have := h.isLt; omega⟩ : Fin 512) l) * chunkB m c k (ix2 j l) := by
  rw [← part_at]
  refine congrArg (part m c k) (funext fun a => Fin.ext ?_)
  match a with
  | ⟨0, _⟩ => rfl
  | ⟨1, _⟩ => show 256 * h.val + 1 * i.val = 256 * h.val + i.val; omega
  | ⟨2, _⟩ => show 0 + 1 * j.val = j.val; omega

/-- A block with a leading axis of one, seen without it. -/
theorem flat_at (X : S1x256x256.Idx → EReal) (h : S1x256x256.ShapeCasts S256x256) (i j : Fin 256) :
    shapeCast S256x256 X h (ix2 i j) = X (ix3 (0 : Fin 1) i j) := by
  refine (shapeCast_dropUnit_apply ![256, 256] X h (ix2 i j)).trans (congrArg X (funext fun a => Fin.ext ?_))
  match a with
  | ⟨0, _⟩ => rfl
  | ⟨1, _⟩ => rfl
  | ⟨2, _⟩ => rfl

/-- The tile a device sends is the other rows of its partial product: narrowing them changes nothing over the reals. -/
theorem tile_flat (c : Dev nD) (k : Fin 4) (h : S1x256x256.ShapeCasts S256x256) :
    shapeCast S256x256 (tile m c k) h = shapeCast S256x256 (partRows m c k (oth c)) h := by
  unfold tile k0_pay4
  exact shapeCast_shapeCast (truncf .bf16 (shapeCast S256x256 (partRows m c k (oth c)) shapeCasts_S1x256x256_S256x256 : FVec Ideal S256x256 .f32) bitsLt_bf16_f32 : FVec Ideal S256x256 .bf16)
    shapeCasts_S256x256_S1x256x256 h

/-- The finished block: the device's own partial product plus its neighbour's. -/
theorem done_at (c : Dev nD) (k : Fin 4) (i j : Fin 256) :
    done m c k (ix2 i j) = partRows m c k (own c) (ix3 (0 : Fin 1) i j) + partRows m (xn c) k (oth (xn c)) (ix3 (0 : Fin 1) i j) := by
  unfold done k0_pay8
  rw [tile_flat]
  have e := flat_at (partRows m c k (own c)) shapeCasts_S1x256x256_S256x256 i j
  have e' := flat_at (partRows m (xn c) k (oth (xn c))) shapeCasts_S1x256x256_S256x256 i j
  generalize shapeCast S256x256 (partRows m c k (own c)) shapeCasts_S1x256x256_S256x256 = X at e ⊢
  generalize shapeCast S256x256 (partRows m (xn c) k (oth (xn c))) shapeCasts_S1x256x256_S256x256 = Y at e' ⊢
  exact congrArg₂ (fun a b : EReal => a + b) e e'

end Cert.Exchange

end
-- ==== Proof.OutValue.lean ====
/-
# What the result holds

Over the extended reals: the kernel's result at a place, as two sums of 4096 products, one over each half of the contraction.
-/
module

public import proofs.«01_k».proof.Proof.PartValue

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

variable (m : (ℓ : Loc nD τ sig) → Buf (Elt Ideal) ℓ)

/-- Device `c`'s arguments, arrays of extended reals. -/
def argA (c : Dev nD) : S1024x4096.Idx → EReal := m ((c : Thread nD τ).loc main_arg0)
@[inherit_doc argA] def argB (c : Dev nD) : S1024x4096.Idx → EReal := m ((c : Thread nD τ).loc main_arg1)

/-- What device `c` can add up: row `i` of its first argument with row `j` of its second. -/
def half (c : Dev nD) (i j : Fin 1024) : EReal := ∑ l : Fin 4096, argA m c (ix2 i l) * argB m c (ix2 j l)

/-- A partial product's rows, in terms of the arguments. -/
theorem partRows_half (c : Dev nD) (k : Fin 4) (h : Fin 2) (i j : Fin 256) (i' j' : Fin 1024)
    (hi : i'.val = 512 * (c.val % 2) + (256 * h.val + i.val)) (hj : j'.val = 256 * k.val + j.val) :
    partRows m c k h (ix3 (0 : Fin 1) i j) = half m c i' j' := by
  rw [partRows_at]
  refine Finset.sum_congr rfl fun l _ => ?_
  rw [rowsA_at, chunkB_at]
  have ei : (⟨512 * (c.val % 2) + (256 * h.val + i.val), hi ▸ i'.isLt⟩ : Fin 1024) = i' := Fin.ext hi.symm
  have ej : (⟨256 * k.val + j.val, hj ▸ j'.isLt⟩ : Fin 1024) = j' := Fin.ext hj.symm
  exact congrArg₂ (fun a b : EReal => a * b) (congrArg (fun t => argA m c (ix2 t l)) ei) (congrArg (fun t => argB m c (ix2 t l)) ej)

/-- The result at `(i, j)`: what the device that finishes row `i` adds up, plus what its neighbour along `x` does. -/
theorem outV_at (i j : Fin 1024) : outV m (ix2 i j) = half m (rowDev i) i j + half m (xn (rowDev i)) i j := by
  have hi := i.isLt
  have hj := j.isLt
  have e : outV m (ix2 i j) = done m (rowDev i) (colChunk j)
      (ix2 (⟨i.val % 256, Nat.mod_lt _ (by decide)⟩ : Fin 256) (⟨j.val % 256, Nat.mod_lt _ (by decide)⟩ : Fin 256)) := rfl
  have hx : (xn (rowDev i)).val = (2 * (i.val / 256 % 2) + i.val / 256 / 2 + 2) % 4 := rfl
  have ho : (oth (xn (rowDev i))).val = 1 - (xn (rowDev i)).val / 2 := rfl
  rw [e, done_at]
  refine congrArg₂ (· + ·) (partRows_half m _ _ _ _ _ i j ?_ ?_) (partRows_half m _ _ _ _ _ i j ?_ ?_)
  · show i.val = 512 * ((2 * (i.val / 256 % 2) + i.val / 256 / 2) % 2) + (256 * ((2 * (i.val / 256 % 2) + i.val / 256 / 2) / 2) + i.val % 256)
    omega
  · show j.val = 256 * (j.val / 256) + j.val % 256
    omega
  · rw [ho, hx]
    have hq : i.val / 256 < 4 := by omega
    have hs : i.val = 256 * (i.val / 256) + i.val % 256 := by omega
    generalize i.val / 256 = q at hq hs ⊢
    interval_cases q <;> (simp only at hs ⊢; omega)
  · show j.val = 256 * (j.val / 256) + j.val % 256
    omega

end Cert.Exchange

end
-- ==== Proof.RefValue.lean ====
/-
# What the reference computes

Over the extended reals: one product of the whole arguments, read at a place as a sum of 8192 products.
-/
module

public import proofs.«01_k».proof.Proof.Gen.ReferenceIdeal.Run
public import Idealize.ShloMosaic.PureOps.Ideal
public import Idealize.ShloMosaic.Lib.MatmulPlain
public import Idealize.ShloMosaic.Lib.ValueIdx
public import Idealize.ShloMosaic.Lib.Pipeline.Value

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-- The reference's result, for whole arguments `A` and `B`. -/
def refV (A B : FVec Ideal Cert.ReferenceIdeal.S1024x8192 .f32) : FVec Ideal Cert.ReferenceIdeal.S1024x1024 .bf16 :=
  truncf .bf16 (Host.dotGeneral Cert.ReferenceIdeal.dot_S1024x8192_S8192x1024_S1024x1024_1_0_0_1_n_n none A
    (transpose Cert.ReferenceIdeal.S8192x1024 [1, 0] B Cert.ReferenceIdeal.Facts₀.transposes_S1024x8192_S8192x1024_1_0)) Cert.ReferenceIdeal.Facts₀.bitsLt_bf16_f32

/-- The reference at `(i, j)`: row `i` of the first argument with row `j` of the second. -/
theorem refV_at (A B : FVec Ideal Cert.ReferenceIdeal.S1024x8192 .f32) (i j : Fin 1024) :
    refV A B (ix2 i j) = ∑ l : Fin 8192, A (ix2 i l) * B (ix2 j l) := by
  refine (Ideal.dotGeneral_apply (DotDims.plain 1024 8192 1024) none .single A
    (transpose Cert.ReferenceIdeal.S8192x1024 [1, 0] B Cert.ReferenceIdeal.Facts₀.transposes_S1024x8192_S8192x1024_1_0) (ix2 i j)).trans ?_
  rw [← Equiv.sum_comp (DotDims.plainContr 1024 8192 1024).symm]
  refine Finset.sum_congr rfl fun l _ => ?_
  have hl := contrEquiv1_symm_val _ 8192 (DotDims.plain_contr_rank 1024 8192 1024) (DotDims.plain_contr_size 1024 8192 1024) l
  refine congrArg₂ (· * ·) (congrArg A (Shape.idx_ext₂ rfl hl)) (transpose_apply [1, 0] B _ _ (ix2 j l) fun b => ?_)
  match b with
  | ⟨0, _⟩ => exact hl.symm
  | ⟨1, _⟩ => rfl

end Cert.Exchange

end
-- ==== Proof.Equation.lean ====
/-
# The equation

Over the extended reals: when every device's arguments are its half of the columns of the whole arguments, the kernel's result
is the reference's. A sum of 8192 products is the sum of its two halves, in either order.
-/
module

public import proofs.«01_k».proof.Proof.OutValue
public import proofs.«01_k».proof.Proof.RefValue
public import Idealize.ShloMosaic.Lib.Layout

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

variable (m : (ℓ : Loc nD τ sig) → Buf (Elt Ideal) ℓ) (A B : FVec Ideal Cert.ReferenceIdeal.S1024x8192 .f32)

/-- Each device's arguments are its half of the whole arguments' columns, the half its place along `x` names. -/
def Halves : Prop := ∀ c : Dev nD,
  m ((c : Thread nD τ).loc main_arg0) = Layout.blockN ⟨2, ![1024, 4096]⟩ ⟨2, ![1024, 8192]⟩ (Layout.meshBlock [2, 2] ![[], [0]] c) A
  ∧ m ((c : Thread nD τ).loc main_arg1) = Layout.blockN ⟨2, ![1024, 4096]⟩ ⟨2, ![1024, 8192]⟩ (Layout.meshBlock [2, 2] ![[], [0]] c) B

/-- A device's half of an array's columns, read at a place. -/
theorem block_at (X : FVec Ideal Cert.ReferenceIdeal.S1024x8192 .f32) (c : Dev nD) (i : Fin 1024) (l : Fin 4096) :
    (Layout.blockN ⟨2, ![1024, 4096]⟩ ⟨2, ![1024, 8192]⟩ (Layout.meshBlock [2, 2] ![[], [0]] c) X) (ix2 i l)
      = X (ix2 i (⟨4096 * (c.val / 2) + l.val, by have := c.isLt; have : c.val < 4 := this; have := l.isLt; omega⟩ : Fin 8192)) := by
  have hc : c.val < 4 := c.isLt
  rw [Layout.blockN_apply]
  refine congrArg X (Shape.idx_ext₂ ?_ ?_)
  · rw [Layout.TilesN.idx_val, Layout.meshBlock_val]
    show 0 * 1024 + i.val = i.val
    omega
  · rw [Layout.TilesN.idx_val, Layout.meshBlock_val]
    show (0 * 2 + c.val / 2 % 2) * 4096 + l.val = 4096 * (c.val / 2) + l.val
    omega

variable {m A B}

/-- What device `c` adds up, in terms of the whole arguments: half `x` of the contraction. -/
theorem half_at (h : Halves m A B) (c : Dev nD) (i j : Fin 1024) :
    half m c i j = ∑ l : Fin 4096, A (ix2 i (⟨4096 * (c.val / 2) + l.val, by have := c.isLt; have : c.val < 4 := this; have := l.isLt; omega⟩ : Fin 8192))
      * B (ix2 j (⟨4096 * (c.val / 2) + l.val, by have := c.isLt; have : c.val < 4 := this; have := l.isLt; omega⟩ : Fin 8192)) := by
  refine Finset.sum_congr rfl fun l _ => congrArg₂ (fun a b : EReal => a * b) ?_ ?_
  · exact (congrFun (h c).1 (ix2 i l)).trans (block_at A c i l)
  · exact (congrFun (h c).2 (ix2 j l)).trans (block_at B c j l)

/-- A sum over 8192 is the sum over its first half plus that over its second. -/
theorem sum_halves (f : Fin 8192 → EReal) (p : Fin 2 → Fin 4096 → Fin 8192) (hp : ∀ x l, (p x l).val = 4096 * x.val + l.val) :
    ∑ l, f l = ∑ l, f (p 0 l) + ∑ l, f (p 1 l) := by
  refine (Fin.sum_univ_add (a := 4096) (b := 4096) f).trans (congrArg₂ (· + ·) ?_ ?_)
  · refine Finset.sum_congr rfl fun l _ => congrArg f (Fin.ext ?_)
    rw [hp]; show l.val = 4096 * 0 + l.val; omega
  · refine Finset.sum_congr rfl fun l _ => congrArg f (Fin.ext ?_)
    rw [hp]; show 4096 + l.val = 4096 * 1 + l.val; omega

/-- Neighbours along `x` hold the two halves, one each. -/
theorem pair_halves (d : Dev nD) : d.val / 2 = 0 ∧ (xn d).val / 2 = 1 ∨ d.val / 2 = 1 ∧ (xn d).val / 2 = 0 := by revert d; decide

/-- The kernel's result is the reference's. -/
theorem outV_eq (h : Halves m A B) : outV m = refV A B := by
  funext x
  obtain ⟨i, j, rfl⟩ : ∃ i j : Fin 1024, x = ix2 i j := ⟨x 0, x 1, eq_ix2 x⟩
  have hi := i.isLt
  rw [outV_at, refV_at, half_at h, half_at h, sum_halves _ (fun x l => ⟨4096 * x.val + l.val, by have := x.isLt; have := l.isLt; omega⟩) fun _ _ => rfl]
  rcases pair_halves (rowDev i) with ⟨e, e'⟩ | ⟨e, e'⟩
  · simp only [e, e']
    rfl
  · simp only [e, e']
    exact add_comm _ _

end Cert.Exchange

end
-- ==== Proof.Claims.lean ====
/-
# The claims about the reference and about values

The reference ends with its arguments unchanged, and the kernel over the extended reals computes what the reference does.
-/
module

public import proofs.«01_k».proof.Proof.Equation
public import proofs.«01_k».proof.Proof.Launch
public import proofs.«01_k».proof.Defs
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx
open scoped BigOperators

/-- The reference ends, its arguments are unchanged; it has no semaphore. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run m ρ)

/-- From arguments cut in halves over the devices, every device's result is the reference's of the whole arguments. -/
theorem same_values : Cert.algebraic_KernelIdeal_ReferenceIdeal := fun m ρ m' ρ' _ h =>
  ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ r c => ⟨(r.1 c).1.trans (outV_eq h), (r.1 c).2⟩) (run_main (F := Ideal) m ρ),
    (θ_run Cert.ReferenceIdeal.defs _ _).mono (fun _ r => r 0) (Cert.ReferenceIdeal.Value.run m' ρ')⟩

end Cert.Exchange

end
-- ==== Proof.lean ====
/-
# The claim

The five claims about the kernel and its reference, put together: each of the three programs ends with its arguments unchanged
and every semaphore at zero; the ideal program is the kernel's own text; and over the extended reals, from arguments cut in halves
over the devices, every device's result is the reference's of the whole arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Claims

@[expose] public section

noncomputable section

namespace Cert.Proof

/-- All five claims. -/
theorem claim : Cert.Claim :=
  ⟨Cert.Kernel.Gen.facts, Cert.KernelIdeal.Gen.facts, Cert.ReferenceIdeal.Gen.facts,
    Cert.Exchange.frame_kernel, Cert.Exchange.frame_ideal, Cert.Exchange.frame_reference, trivial, Cert.Exchange.same_values⟩

end Cert.Proof

end
